-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 2048]⟩ ⟨3, ![4, 1024, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 2048]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2048 : Shape := ⟨3, ![1, 1024, 2048]⟩
abbrev S1024x512 : Shape := ⟨2, ![1024, 512]⟩
abbrev S256x512 : Shape := ⟨2, ![256, 512]⟩
abbrev S3x256x512 : Shape := ⟨3, ![3, 256, 512]⟩
abbrev S128x512 : Shape := ⟨2, ![128, 512]⟩
abbrev S3 : Shape := ⟨1, ![3]⟩
abbrev S4 : Shape := ⟨1, ![4]⟩
abbrev S_ : Shape := ⟨0, ![]⟩
abbrev S1 : Shape := ⟨1, ![1]⟩
abbrev S1x256x512 : Shape := ⟨3, ![1, 256, 512]⟩

abbrev nBuf : Space → Nat
  | .hbm => 2
  | .vmem => 9
  | .smem => 0
  | _ => 0

abbrev bufTy : (tb : Table) → Fin (tcTables nBuf tb) → BufTy
  | .hbm, ⟨0, _⟩ => ⟨S1x1024x2048, .f32⟩
  | .hbm, ⟨1, _⟩ => ⟨S1024x512, .f32⟩
  | .local _ .vmem, ⟨0, _⟩ => ⟨S1x1024x2048, .f32⟩
  | .local _ .vmem, ⟨1, _⟩ => ⟨S1024x512, .f32⟩
  | .local _ .vmem, ⟨2, _⟩ => ⟨S256x512, .f32⟩
  | .local _ .vmem, ⟨3, _⟩ => ⟨S3x256x512, .f32⟩
  | .local _ .vmem, ⟨4, _⟩ => ⟨S3x256x512, .f32⟩
  | .local _ .vmem, ⟨5, _⟩ => ⟨S256x512, .f32⟩
  | .local _ .vmem, ⟨6, _⟩ => ⟨S256x512, .f32⟩
  | .local _ .vmem, ⟨7, _⟩ => ⟨S128x512, .f32⟩
  | .local _ .vmem, ⟨8, _⟩ => ⟨S128x512, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 2 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v20 : BitVec 32 := Scalar.muli v2 c8_i32_11
  let v21 : BitVec 32 := Scalar.addi c0_i32 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v22 : BitVec 32 := Scalar.muli v5 c4_i32_12
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_13 : BitVec 32 := 1#32
  let v24 : BitVec 32 := Scalar.muli v16 c1_i32_13
  let v25 : BitVec 32 := Scalar.addi v23 v24
  v25.toNat
def k0_dev2 (d0 : Dev nD) : Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_15 : BitVec 32 := 8#32
  let v26 : BitVec 32 := Scalar.muli v2 c8_i32_15
  let v27 : BitVec 32 := Scalar.addi c0_i32_16 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_17 : BitVec 32 := 4#32
  let v28 : BitVec 32 := Scalar.muli v5 c4_i32_17
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_18 : BitVec 32 := 1#32
  let v30 : BitVec 32 := Scalar.muli v13 c1_i32_18
  let v31 : BitVec 32 := Scalar.addi v29 v30
  v31.toNat
def k0_dev3 (d0 : Dev nD) : Nat :=
  let c0_i32_21 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c8_i32_20 : BitVec 32 := 8#32
  let v32 : BitVec 32 := Scalar.muli v17 c8_i32_20
  let v33 : BitVec 32 := Scalar.addi c0_i32_21 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v34 : BitVec 32 := Scalar.muli v5 c4_i32_22
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v36 : BitVec 32 := Scalar.muli v8 c1_i32_23
  let v37 : BitVec 32 := Scalar.addi v35 v36
  v37.toNat
def k0_dev4 (d0 : Dev nD) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v38 : BitVec 32 := Scalar.muli v2 c8_i32_25
  let v39 : BitVec 32 := Scalar.addi c0_i32_26 v38
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_9 v5
  let c4_i32_27 : BitVec 32 := 4#32
  let v40 : BitVec 32 := Scalar.muli v18 c4_i32_27
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v42 : BitVec 32 := Scalar.muli v8 c1_i32_28
  let v43 : BitVec 32 := Scalar.addi v41 v42
  v43.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_32 : BitVec 32 := 3#32
  let v49 : BitVec 1 := Scalar.cmpi .slt v8 c3_i32_32
  let v50 : BitVec 32 := Scalar.extui v49
  let c0_i32_33 : BitVec 32 := 0#32
  let v51 : BitVec 1 := Scalar.cmpi .ne v50 c0_i32_33
  v51

def k0_off1 (d0 : Dev nD) : Fin 3 → Nat :=
  let c0_191 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v268 : Index := Scalar.indexCast v11
  let c1536 : Index := 1536#32
  ![0, v268.toNat, 1536]
def k0_dev5 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v280 : BitVec 32 := Scalar.muli v2 c8_i32_203
  let v281 : BitVec 32 := Scalar.addi c0_i32_204 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v282 : BitVec 32 := Scalar.muli v5 c4_i32_205
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_206 : BitVec 32 := 1#32
  let v284 : BitVec 32 := Scalar.muli v13 c1_i32_206
  let v285 : BitVec 32 := Scalar.addi v283 v284
  v285.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_37 : BitVec 32 := 0#32
  let v57 : BitVec 1 := Scalar.cmpi .sgt v8 c0_i32_37
  let v58 : BitVec 32 := Scalar.extui v57
  let c0_i32_38 : BitVec 32 := 0#32
  let v59 : BitVec 1 := Scalar.cmpi .ne v58 c0_i32_38
  v59

def k0_off2 (d0 : Dev nD) : Fin 3 → Nat :=
  let c0_191 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v268 : Index := Scalar.indexCast v11
  let c0_192 : Index := 0#32
  ![0, v268.toNat, 0]
def k0_dev6 (d0 : Dev nD) : Nat :=
  let c0_i32_206 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_205 : BitVec 32 := 8#32
  let v280 : BitVec 32 := Scalar.muli v2 c8_i32_205
  let v281 : BitVec 32 := Scalar.addi c0_i32_206 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_207 : BitVec 32 := 4#32
  let v282 : BitVec 32 := Scalar.muli v5 c4_i32_207
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_208 : BitVec 32 := 1#32
  let v284 : BitVec 32 := Scalar.muli v16 c1_i32_208
  let v285 : BitVec 32 := Scalar.addi v283 v284
  v285.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_42 : BitVec 32 := 2#32
  let v65 : BitVec 1 := Scalar.cmpi .slt v8 c2_i32_42
  let v66 : BitVec 32 := Scalar.extui v65
  let c0_i32_43 : BitVec 32 := 0#32
  let v67 : BitVec 1 := Scalar.cmpi .ne v66 c0_i32_43
  v67

def k0_off3 (d0 : Dev nD) : Fin 3 → Nat :=
  let c0_191 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v268 : Index := Scalar.indexCast v11
  let c1024 : Index := 1024#32
  ![0, v268.toNat, 1024]
def k0_dev7 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v280 : BitVec 32 := Scalar.muli v2 c8_i32_203
  let v281 : BitVec 32 := Scalar.addi c0_i32_204 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v282 : BitVec 32 := Scalar.muli v5 c4_i32_205
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_206 : BitVec 32 := 1#32
  let v284 : BitVec 32 := Scalar.muli v13 c1_i32_206
  let v285 : BitVec 32 := Scalar.addi v283 v284
  v285.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v73 : BitVec 1 := Scalar.cmpi .sgt v8 c1_i32_47
  let v74 : BitVec 32 := Scalar.extui v73
  let c0_i32_48 : BitVec 32 := 0#32
  let v75 : BitVec 1 := Scalar.cmpi .ne v74 c0_i32_48
  v75

def k0_off4 (d0 : Dev nD) : Fin 3 → Nat :=
  let c0_191 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v268 : Index := Scalar.indexCast v11
  let c512 : Index := 512#32
  ![0, v268.toNat, 512]
def k0_dev8 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v280 : BitVec 32 := Scalar.muli v2 c8_i32_203
  let v281 : BitVec 32 := Scalar.addi c0_i32_204 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v282 : BitVec 32 := Scalar.muli v5 c4_i32_205
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_206 : BitVec 32 := 1#32
  let v284 : BitVec 32 := Scalar.muli v16 c1_i32_206
  let v285 : BitVec 32 := Scalar.addi v283 v284
  v285.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v81 : BitVec 1 := Scalar.cmpi .slt v8 c1_i32_52
  let v82 : BitVec 32 := Scalar.extui v81
  let c0_i32_53 : BitVec 32 := 0#32
  let v83 : BitVec 1 := Scalar.cmpi .ne v82 c0_i32_53
  v83

def k0_off5 (d0 : Dev nD) : Fin 3 → Nat :=
  let c0_191 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v268 : Index := Scalar.indexCast v11
  let c512 : Index := 512#32
  ![0, v268.toNat, 512]
def k0_dev9 (d0 : Dev nD) : Nat :=
  let c0_i32_205 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_204 : BitVec 32 := 8#32
  let v280 : BitVec 32 := Scalar.muli v2 c8_i32_204
  let v281 : BitVec 32 := Scalar.addi c0_i32_205 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v282 : BitVec 32 := Scalar.muli v5 c4_i32_206
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_207 : BitVec 32 := 1#32
  let v284 : BitVec 32 := Scalar.muli v13 c1_i32_207
  let v285 : BitVec 32 := Scalar.addi v283 v284
  v285.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_57 : BitVec 32 := 2#32
  let v89 : BitVec 1 := Scalar.cmpi .sgt v8 c2_i32_57
  let v90 : BitVec 32 := Scalar.extui v89
  let c0_i32_58 : BitVec 32 := 0#32
  let v91 : BitVec 1 := Scalar.cmpi .ne v90 c0_i32_58
  v91

def k0_off6 (d0 : Dev nD) : Fin 3 → Nat :=
  let c0_191 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v268 : Index := Scalar.indexCast v11
  let c1024 : Index := 1024#32
  ![0, v268.toNat, 1024]
def k0_dev10 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v280 : BitVec 32 := Scalar.muli v2 c8_i32_203
  let v281 : BitVec 32 := Scalar.addi c0_i32_204 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v282 : BitVec 32 := Scalar.muli v5 c4_i32_205
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_206 : BitVec 32 := 1#32
  let v284 : BitVec 32 := Scalar.muli v16 c1_i32_206
  let v285 : BitVec 32 := Scalar.addi v283 v284
  v285.toNat
def k0_off7 (d0 : Dev nD) : Fin 3 → Nat :=
  let c0 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v111 : Index := Scalar.indexCast v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v110 : BitVec 32 := Scalar.muli v8 c512_i32
  let v112 : Index := Scalar.indexCast v110
  ![0, v111.toNat, v112.toNat]
def k0_off8 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v116 : BitVec 32 := Scalar.subi v8 c1_i32_72
  let c0_i32_73 : BitVec 32 := 0#32
  let v117 : BitVec 32 := Scalar.maxsi v116 c0_i32_73
  let v118 : Index := Scalar.indexCast v117
  let c0_74 : Index := 0#32
  let c0_75 : Index := 0#32
  ![v118.toNat, 0, 0]
def k0_off9 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_77 : BitVec 32 := 2#32
  let v125 : BitVec 32 := Scalar.minsi v8 c2_i32_77
  let v126 : Index := Scalar.indexCast v125
  let c0_78 : Index := 0#32
  let c0_79 : Index := 0#32
  ![v126.toNat, 0, 0]
def k0_off10 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v135 : Index := Scalar.indexCast v11
  let c0_83 : Index := 0#32
  ![v135.toNat, 0]
def k0_dev11 (d0 : Dev nD) : Nat :=
  let c0_i32_87 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c8_i32_86 : BitVec 32 := 8#32
  let v137 : BitVec 32 := Scalar.muli v17 c8_i32_86
  let v138 : BitVec 32 := Scalar.addi c0_i32_87 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v139 : BitVec 32 := Scalar.muli v5 c4_i32_88
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v141 : BitVec 32 := Scalar.muli v8 c1_i32_89
  let v142 : BitVec 32 := Scalar.addi v140 v141
  v142.toNat
def k0_dev12 (d0 : Dev nD) : Nat :=
  let c0_i32_93 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_92 : BitVec 32 := 8#32
  let v147 : BitVec 32 := Scalar.muli v2 c8_i32_92
  let v148 : BitVec 32 := Scalar.addi c0_i32_93 v147
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_9 v5
  let c4_i32_94 : BitVec 32 := 4#32
  let v149 : BitVec 32 := Scalar.muli v18 c4_i32_94
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v151 : BitVec 32 := Scalar.muli v8 c1_i32_95
  let v152 : BitVec 32 := Scalar.addi v150 v151
  v152.toNat
def k0_dev13 (d0 : Dev nD) : Nat :=
  let c0_i32_117 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_116 : BitVec 32 := 8#32
  let v183 : BitVec 32 := Scalar.muli v2 c8_i32_116
  let v184 : BitVec 32 := Scalar.addi c0_i32_117 v183
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_9 v5
  let c4_i32_118 : BitVec 32 := 4#32
  let v185 : BitVec 32 := Scalar.muli v18 c4_i32_118
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v187 : BitVec 32 := Scalar.muli v8 c1_i32_119
  let v188 : BitVec 32 := Scalar.addi v186 v187
  v188.toNat
def k0_dev14 (d0 : Dev nD) : Nat :=
  let c0_i32_131 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c8_i32_130 : BitVec 32 := 8#32
  let v202 : BitVec 32 := Scalar.muli v17 c8_i32_130
  let v203 : BitVec 32 := Scalar.addi c0_i32_131 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_132 : BitVec 32 := 4#32
  let v204 : BitVec 32 := Scalar.muli v5 c4_i32_132
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v206 : BitVec 32 := Scalar.muli v8 c1_i32_133
  let v207 : BitVec 32 := Scalar.addi v205 v206
  v207.toNat
def k0_off11 (d0 : Dev nD) : Fin 2 → Nat :=
  let c2_i32_152 : BitVec 32 := 2#32
  let c1_i32_151 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v231 : BitVec 32 := Scalar.subi c1_i32_151 v2
  let v232 : BitVec 32 := Scalar.muli c2_i32_152 v231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v233 : BitVec 32 := Scalar.addi v232 v5
  let c256_i32_160 : BitVec 32 := 256#32
  let v242 : BitVec 32 := Scalar.muli v233 c256_i32_160
  let v243 : Index := Scalar.indexCast v242
  let c0_161 : Index := 0#32
  ![v243.toNat, 0]
def k0_off12 (d0 : Dev nD) : Fin 2 → Nat :=
  let c2_i32_153 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v234 : BitVec 32 := Scalar.muli c2_i32_153 v2
  let c1_i32_154 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v235 : BitVec 32 := Scalar.subi c1_i32_154 v5
  let v236 : BitVec 32 := Scalar.addi v234 v235
  let c256_i32_164 : BitVec 32 := 256#32
  let v246 : BitVec 32 := Scalar.muli v236 c256_i32_164
  let v247 : Index := Scalar.indexCast v246
  let c0_165 : Index := 0#32
  ![v247.toNat, 0]
def k0_off13 (d0 : Dev nD) : Fin 2 → Nat :=
  let c2_i32_156 : BitVec 32 := 2#32
  let c1_i32_155 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v237 : BitVec 32 := Scalar.subi c1_i32_155 v2
  let v238 : BitVec 32 := Scalar.muli c2_i32_156 v237
  let c1_i32_157 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v239 : BitVec 32 := Scalar.subi c1_i32_157 v5
  let v240 : BitVec 32 := Scalar.addi v238 v239
  let c256_i32_168 : BitVec 32 := 256#32
  let v250 : BitVec 32 := Scalar.muli v240 c256_i32_168
  let v251 : Index := Scalar.indexCast v250
  let c0_169 : Index := 0#32
  ![v251.toNat, 0]
def k0_off14 (d0 : Dev nD) : Fin 2 → Nat :=
  let c2_i32_156 : BitVec 32 := 2#32
  let c1_i32_155 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v237 : BitVec 32 := Scalar.subi c1_i32_155 v2
  let v238 : BitVec 32 := Scalar.muli c2_i32_156 v237
  let c1_i32_157 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v239 : BitVec 32 := Scalar.subi c1_i32_157 v5
  let v240 : BitVec 32 := Scalar.addi v238 v239
  let c256_i32_172 : BitVec 32 := 256#32
  let v254 : BitVec 32 := Scalar.muli v240 c256_i32_172
  let c128_i32_173 : BitVec 32 := 128#32
  let v255 : BitVec 32 := Scalar.addi v254 c128_i32_173
  let v256 : Index := Scalar.indexCast v255
  let c0_174 : Index := 0#32
  ![v256.toNat, 0]
def k0_dev15 (d0 : Dev nD) : Nat :=
  let c0_i32_193_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_192_r0 : BitVec 32 := 8#32
  let v269_r0 : BitVec 32 := Scalar.muli v2 c8_i32_192_r0
  let v270_r0 : BitVec 32 := Scalar.addi c0_i32_193_r0 v269_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_194_r0 : BitVec 32 := 4#32
  let v271_r0 : BitVec 32 := Scalar.muli v5 c4_i32_194_r0
  let v272_r0 : BitVec 32 := Scalar.addi v270_r0 v271_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_5 : BitVec 32 := 4#32
  let v14 : BitVec 32 := Scalar.addi v8 c4_i32_5
  let c1_i32_6 : BitVec 32 := 1#32
  let v15 : BitVec 32 := Scalar.subi v14 c1_i32_6
  let c4_i32_7 : BitVec 32 := 4#32
  let v16 : BitVec 32 := Scalar.remsi v15 c4_i32_7
  let c1_i32_195_r0 : BitVec 32 := 1#32
  let v273_r0 : BitVec 32 := Scalar.muli v16 c1_i32_195_r0
  let v274_r0 : BitVec 32 := Scalar.addi v272_r0 v273_r0
  v274_r0.toNat
def k0_dev16 (d0 : Dev nD) : Nat :=
  let c0_i32_198_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_197_r0 : BitVec 32 := 8#32
  let v275_r0 : BitVec 32 := Scalar.muli v2 c8_i32_197_r0
  let v276_r0 : BitVec 32 := Scalar.addi c0_i32_198_r0 v275_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_199_r0 : BitVec 32 := 4#32
  let v277_r0 : BitVec 32 := Scalar.muli v5 c4_i32_199_r0
  let v278_r0 : BitVec 32 := Scalar.addi v276_r0 v277_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_200_r0 : BitVec 32 := 1#32
  let v279_r0 : BitVec 32 := Scalar.muli v13 c1_i32_200_r0
  let v280_r0 : BitVec 32 := Scalar.addi v278_r0 v279_r0
  v280_r0.toNat
def k0_dev17 (d0 : Dev nD) : Nat :=
  let c0_i32_203_r0 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c8_i32_202_r0 : BitVec 32 := 8#32
  let v281_r0 : BitVec 32 := Scalar.muli v17 c8_i32_202_r0
  let v282_r0 : BitVec 32 := Scalar.addi c0_i32_203_r0 v281_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_204_r0 : BitVec 32 := 4#32
  let v283_r0 : BitVec 32 := Scalar.muli v5 c4_i32_204_r0
  let v284_r0 : BitVec 32 := Scalar.addi v282_r0 v283_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_205_r0 : BitVec 32 := 1#32
  let v285_r0 : BitVec 32 := Scalar.muli v8 c1_i32_205_r0
  let v286_r0 : BitVec 32 := Scalar.addi v284_r0 v285_r0
  v286_r0.toNat
def k0_dev18 (d0 : Dev nD) : Nat :=
  let c0_i32_208_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_207_r0 : BitVec 32 := 8#32
  let v287_r0 : BitVec 32 := Scalar.muli v2 c8_i32_207_r0
  let v288_r0 : BitVec 32 := Scalar.addi c0_i32_208_r0 v287_r0
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_9 v5
  let c4_i32_209_r0 : BitVec 32 := 4#32
  let v289_r0 : BitVec 32 := Scalar.muli v18 c4_i32_209_r0
  let v290_r0 : BitVec 32 := Scalar.addi v288_r0 v289_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210_r0 : BitVec 32 := 1#32
  let v291_r0 : BitVec 32 := Scalar.muli v8 c1_i32_210_r0
  let v292_r0 : BitVec 32 := Scalar.addi v290_r0 v291_r0
  v292_r0.toNat
abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S_, .f32⟩
  | .hbm, ⟨2, _⟩ => ⟨S1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Mesh.lean ====
/-
# The mesh, the semaphores and who pays what

Sixteen devices sit at `(x, y, z)` with `x, y < 2` and `z < 4`; device `c` is at `(c / 8, c / 4 % 2, c % 4)`. The kernel
sums along `z`, and each device starts with the quarter `2 * x + y` of the rows. Partial sums run along `z` in both
directions; then the quarters are exchanged along `x` and `y`.

Every semaphore has a number `k : Fin 22`:

* `0` the barrier on entry, `1` the barrier on exit (regular semaphores);
* `2 + j` and `5 + j` send and receive of slot `j` of the sums running towards larger `z`;
* `8 + j` and `11 + j` send and receive of slot `j` of the sums running towards smaller `z`;
* `14 + i` and `18 + i` send and receive of copy `i` of the exchange of quarters.

The other tables (`kk`, `tg`, `dd`, `ok`) list, in program order, the eighteen payments a device makes to other
devices' semaphores and the ten it makes to its own send semaphores.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option backward.proofsInPublic true

noncomputable section

namespace Cert.KernelIdeal.ReduceScatter

open Cert.KernelIdeal Cert.KernelIdeal.Gen
open Idealize.ShloMosaic
open Idealize.ShloMosaic.TcCoe

/-! ## Neighbours -/

/-- The coordinates of a device. -/
def xc (c : Dev nD) : ℕ := c.val / 8
def yc (c : Dev nD) : ℕ := c.val / 4 % 2
def zc (c : Dev nD) : ℕ := c.val % 4

/-- The next device along `z`, cyclically. -/
def zr (c : Dev nD) : Dev nD := ⟨8 * (c.val / 8) + 4 * (c.val / 4 % 2) + (c.val % 4 + 1) % 4, by have := c.isLt; change _ < 16; change _ < 16 at this; omega⟩
/-- The previous device along `z`, cyclically. -/
def zl (c : Dev nD) : Dev nD := ⟨8 * (c.val / 8) + 4 * (c.val / 4 % 2) + (c.val % 4 + 3) % 4, by have := c.isLt; change _ < 16; change _ < 16 at this; omega⟩
/-- The other device along `x`. -/
def xn (c : Dev nD) : Dev nD := ⟨(4 * (c.val / 4 % 2) + c.val % 4 + 8) - 8 * (c.val / 8), by have := c.isLt; change _ < 16; change _ < 16 at this; omega⟩
/-- The other device along `y`. -/
def yn (c : Dev nD) : Dev nD := ⟨(8 * (c.val / 8) + c.val % 4 + 4) - 4 * (c.val / 4 % 2), by have := c.isLt; change _ < 16; change _ < 16 at this; omega⟩

theorem zl_zr (c : Dev nD) : zl (zr c) = c := by revert c; decide +kernel
theorem zr_zl (c : Dev nD) : zr (zl c) = c := by revert c; decide +kernel
theorem xn_xn (c : Dev nD) : xn (xn c) = c := by revert c; decide +kernel
theorem yn_yn (c : Dev nD) : yn (yn c) = c := by revert c; decide +kernel
theorem xn_yn (c : Dev nD) : xn (yn c) = yn (xn c) := by revert c; decide +kernel

theorem zc_lt (c : Dev nD) : zc c < 4 := Nat.mod_lt _ (by decide)
theorem zc_zl (c : Dev nD) (h : 1 ≤ zc c) : zc (zl c) = zc c - 1 := by revert c; decide +kernel
theorem zc_zr (c : Dev nD) (h : zc c ≤ 2) : zc (zr c) = zc c + 1 := by revert c; decide +kernel

/-- Stepping along `z`, as a permutation of the devices; and the two exchanges. -/
def eR : Dev nD ≃ Dev nD := ⟨zr, zl, zl_zr, zr_zl⟩
def eL : Dev nD ≃ Dev nD := ⟨zl, zr, zr_zl, zl_zr⟩
def eX : Dev nD ≃ Dev nD := ⟨xn, xn, xn_xn, xn_xn⟩
def eY : Dev nD ≃ Dev nD := ⟨yn, yn, yn_yn, yn_yn⟩

/-! ## The devices the program addresses -/

theorem dev1_eq (c : Dev nD) : (⟨k0_dev1 c, k0_dev1_lt c⟩ : Dev nD) = zl c := Fin.ext (k0_dev1_eq c)
theorem dev2_eq (c : Dev nD) : (⟨k0_dev2 c, k0_dev2_lt c⟩ : Dev nD) = zr c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = yn c := Fin.ext (k0_dev4_eq c)
theorem dev5_eq (c : Dev nD) (h) : (⟨k0_dev5 c, k0_dev5_lt c h⟩ : Dev nD) = zr c := Fin.ext (k0_dev5_eq c)
theorem dev6_eq (c : Dev nD) (h) : (⟨k0_dev6 c, k0_dev6_lt c h⟩ : Dev nD) = zl c := Fin.ext (k0_dev6_eq c)
theorem dev7_eq (c : Dev nD) (h) : (⟨k0_dev7 c, k0_dev7_lt c h⟩ : Dev nD) = zr c := Fin.ext (k0_dev7_eq c)
theorem dev8_eq (c : Dev nD) (h) : (⟨k0_dev8 c, k0_dev8_lt c h⟩ : Dev nD) = zl c := Fin.ext (k0_dev8_eq c)
theorem dev9_eq (c : Dev nD) (h) : (⟨k0_dev9 c, k0_dev9_lt c h⟩ : Dev nD) = zr c := Fin.ext (k0_dev9_eq c)
theorem dev10_eq (c : Dev nD) (h) : (⟨k0_dev10 c, k0_dev10_lt c h⟩ : Dev nD) = zl c := Fin.ext (k0_dev10_eq c)
theorem dev11_eq (c : Dev nD) : (⟨k0_dev11 c, k0_dev11_lt c⟩ : Dev nD) = xn c := Fin.ext (k0_dev11_eq c)
theorem dev12_eq (c : Dev nD) : (⟨k0_dev12 c, k0_dev12_lt c⟩ : Dev nD) = yn c := Fin.ext (k0_dev12_eq c)
theorem dev13_eq (c : Dev nD) : (⟨k0_dev13 c, k0_dev13_lt c⟩ : Dev nD) = yn c := Fin.ext (k0_dev13_eq c)
theorem dev14_eq (c : Dev nD) : (⟨k0_dev14 c, k0_dev14_lt c⟩ : Dev nD) = xn c := Fin.ext (k0_dev14_eq c)
theorem dev15_eq (c : Dev nD) : (⟨k0_dev15 c, k0_dev15_lt c⟩ : Dev nD) = zl c := Fin.ext (k0_dev15_eq c)
theorem dev16_eq (c : Dev nD) : (⟨k0_dev16 c, k0_dev16_lt c⟩ : Dev nD) = zr c := Fin.ext (k0_dev16_eq c)
theorem dev17_eq (c : Dev nD) : (⟨k0_dev17 c, k0_dev17_lt c⟩ : Dev nD) = xn c := Fin.ext (k0_dev17_eq c)
theorem dev18_eq (c : Dev nD) : (⟨k0_dev18 c, k0_dev18_lt c⟩ : Dev nD) = yn c := Fin.ext (k0_dev18_eq c)

/-! ## The conditions the program tests -/

/-- The program's word for the device's `z`. -/
def w8 (c : Dev nD) : BitVec 32 := Scalar.remsi (Scalar.divsi (Dev.word c) 1#32) 4#32

theorem cond2_iff (c : Dev nD) : k0_cond2 c = 1#1 ↔ zc c ≤ 2 := by revert c; decide +kernel
theorem cond4_iff (c : Dev nD) : k0_cond4 c = 1#1 ↔ 0 < zc c := by revert c; decide +kernel
theorem cond6_iff (c : Dev nD) : k0_cond6 c = 1#1 ↔ zc c ≤ 1 := by revert c; decide +kernel
theorem cond8_iff (c : Dev nD) : k0_cond8 c = 1#1 ↔ 1 < zc c := by revert c; decide +kernel
theorem cond10_iff (c : Dev nD) : k0_cond10 c = 1#1 ↔ zc c ≤ 0 := by revert c; decide +kernel
theorem cond12_iff (c : Dev nD) : k0_cond12 c = 1#1 ↔ 2 < zc c := by revert c; decide +kernel

theorem w8_eq0 (c : Dev nD) : Scalar.cmpi .eq (w8 c) 0#32 = 1#1 ↔ zc c = 0 := by revert c; decide +kernel
theorem w8_eq3 (c : Dev nD) : Scalar.cmpi .eq (w8 c) 3#32 = 1#1 ↔ zc c = 3 := by revert c; decide +kernel
theorem w8_sgt0 (c : Dev nD) : Scalar.cmpi .sgt (w8 c) 0#32 = 1#1 ↔ 0 < zc c := by revert c; decide +kernel
theorem w8_slt3 (c : Dev nD) : Scalar.cmpi .slt (w8 c) 3#32 = 1#1 ↔ zc c ≤ 2 := by revert c; decide +kernel

/-- The slot the final sum reads of the sums running towards larger `z`, and of the others. -/
def fr (c : Dev nD) : Fin 3 := ⟨zc c - 1, by have := zc_lt c; omega⟩
def fl (c : Dev nD) : Fin 3 := ⟨min (zc c) 2, by omega⟩

theorem off8_eq (c : Dev nD) : k0_off8 c = ![(fr c).val, 0, 0] := by revert c; decide +kernel
theorem off9_eq (c : Dev nD) : k0_off9 c = ![(fl c).val, 0, 0] := by revert c; decide +kernel

/-! ## Semaphores and cells -/

/-- The semaphore of number `k`. -/
def csem (k : Fin 22) : SemLoc sig := if k = 0 then .reg (0 : Fin 2) else if k = 1 then .reg (1 : Fin 2) else .dma (k : Fin 22)
/-- The number of a semaphore. -/
def kOf : SemLoc sig → Fin 22
  | .reg s => Fin.castLE (by decide) (s : Fin 2)
  | .dma s => (s : Fin 22)

theorem kOf_csem (k : Fin 22) : kOf (csem k) = k := by revert k; decide +kernel
theorem csem_injective : Function.Injective csem := fun a b h => by rw [← kOf_csem a, h, kOf_csem]

/-- The cell of semaphore `k` on device `c`. -/
def kcell (ck : Dev nD × Fin 22) : GSem nD τ sig := ((ck.1 : Thread nD τ), csem ck.2)

theorem kcell_injective : Function.Injective kcell := by
  rintro ⟨c, k⟩ ⟨c', k'⟩ h
  have h1 : (c : Thread nD τ) = (c' : Thread nD τ) := congrArg Prod.fst h
  have h2 : csem k = csem k' := congrArg Prod.snd h
  exact Prod.ext (congrArg (fun t : Thread nD τ => t.1) h1) (csem_injective h2)

/-- The credits of a copy of 256 rows, and of one of 128 rows. -/
def NB : ℕ := (Memref.whole cc0_scratch0 : Memref sig .tc .vmem S256x512 .f32).view.dmaCredit
def NH : ℕ := (Memref.whole cc0_scratch5 : Memref sig .tc .vmem S128x512 .f32).view.dmaCredit
theorem NB_pos : 0 < NB := View.dmaCredit_pos _ (by decide)
theorem NH_pos : 0 < NH := View.dmaCredit_pos _ (by decide)

/-- What one payment to semaphore `k` amounts to. -/
def am (k : Fin 22) : ℕ := if k.val ≤ 1 then 1 else if k = 16 ∨ k = 17 ∨ k = 20 ∨ k = 21 then NH else NB
theorem am_pos (k : Fin 22) : 0 < am k := by
  unfold am; split_ifs
  · exact Nat.one_pos
  · exact NH_pos
  · exact NB_pos

/-- Whether semaphore `k` is used on device `c`. -/
def used (c : Dev nD) (k : Fin 22) : Bool :=
  if k.val < 2 then true
  else if k.val < 5 then decide (zc c ≤ k.val - 2)
  else if k.val < 8 then decide (1 ≤ zc c ∧ zc c ≤ k.val - 5 + 1)
  else if k.val < 11 then decide (k.val - 8 < zc c)
  else if k.val < 14 then decide (k.val - 11 ≤ zc c ∧ zc c ≤ 2)
  else true

/-- The payments expected by semaphore `k` on device `c`: four on a barrier, one elsewhere, none where it is not used. -/
def duK (c : Dev nD) (k : Fin 22) : Finset (Fin 4) := if k.val < 2 then Finset.univ else if used c k then {0} else ∅

/-- The order in which semaphores are waited for. -/
def lvK (c : Dev nD) (k : Fin 22) : ℕ :=
  if k.val = 0 then 1
  else if k.val = 1 then 102
  else if k.val < 5 then 0
  else if k.val < 8 then 10 + 8 * (2 - (k.val - 5)) + zc c
  else if k.val < 11 then 0
  else if k.val < 14 then 10 + 4 * (2 * (k.val - 11) + 1) + (3 - zc c)
  else if k.val < 18 then 0
  else if k.val < 20 then 100
  else 101

/-! ## The payments, in program order -/

/-- The semaphore, the receiver and the name of payment `s`; numbers from 18 on are those to the device's own sends. -/
def kk (s : Fin 28) : Fin 22 := (![0, 0, 0, 0, 7, 11, 6, 12, 5, 13, 18, 19, 20, 21, 1, 1, 1, 1, 2, 3, 4, 8, 9, 10, 14, 15, 16, 17] : Fin 28 → Fin 22) s
def tg (s : Fin 28) : Dev nD ≃ Dev nD :=
  (![eL, eR, eX, eY, eR, eL, eR, eL, eR, eL, eX, eY, eY, eX, eL, eR, eX, eY,
    .refl _, .refl _, .refl _, .refl _, .refl _, .refl _, .refl _, .refl _, .refl _, .refl _] : Fin 28 → (Dev nD ≃ Dev nD)) s
def dd (s : Fin 28) : Fin 4 := (![0, 1, 2, 3, 0, 0, 0, 0, 0, 0, 0, 0, 0, 0, 0, 1, 2, 3, 0, 0, 0, 0, 0, 0, 0, 0, 0, 0] : Fin 28 → Fin 4) s

/-- Whether device `c` makes payment `s` to another device. -/
def ok (s : Fin 28) (c : Dev nD) : Bool := decide (s.val < 18) && used (tg s c) (kk s)

theorem ok_4 (c : Dev nD) : ok 4 c = decide (zc c ≤ 2) := by revert c; decide +kernel
theorem ok_5 (c : Dev nD) : ok 5 c = decide (0 < zc c) := by revert c; decide +kernel
theorem ok_6 (c : Dev nD) : ok 6 c = decide (zc c ≤ 1) := by revert c; decide +kernel
theorem ok_7 (c : Dev nD) : ok 7 c = decide (1 < zc c) := by revert c; decide +kernel
theorem ok_8 (c : Dev nD) : ok 8 c = decide (zc c ≤ 0) := by revert c; decide +kernel
theorem ok_9 (c : Dev nD) : ok 9 c = decide (2 < zc c) := by revert c; decide +kernel

end Cert.KernelIdeal.ReduceScatter
-- ==== Proof.KernelIdeal.Contents.lean ====
/-
# What the buffers hold

The block of `x` a device is given, the partial sums that travel along `z`, the finished quarter of each device, and
the result. They are stated with the values the program computes, for any number format.
-/
module

public import proofs.«01_k».proof.Proof.KernelIdeal.Mesh

@[expose] public section

set_option backward.proofsInPublic true

noncomputable section

namespace Cert.KernelIdeal.ReduceScatter

open Cert.KernelIdeal Cert.KernelIdeal.Gen
open Idealize.ShloMosaic
open Idealize.ShloMosaic.TcCoe

variable {F : FTy → Type} [FloatOps F]

/-- Half of a buffer of 256 rows: the rectangle of its first 128 rows, and of its last. -/
abbrev topR : Rect S256x512 := Rect.unit (s := S256x512) ![0, 0] S128x512.size inb_S256x512_S128x512_0_0
abbrev botR : Rect S256x512 := Rect.unit (s := S256x512) ![128, 0] S128x512.size inb_S256x512_S128x512_128_0

/-- The contents of a half. -/
def top (v : FVec F S256x512 .f32) : FVec F S128x512 .f32 := fun i => v (topR.emb i)
def bot (v : FVec F S256x512 .f32) : FVec F S128x512 .f32 := fun i => v (botR.emb i)

variable (m : (ℓ : Loc nD τ sig) → Buf (Elt F) ℓ)

/-- What device `c` is given of `x`, as its staging buffer holds it. -/
def xstg (c : Dev nD) : (cc0_stg0_0 : Ref sig .tc).ty.Contents (Elt F) :=
  (win0_0.blk (0 : Fin 1)).view.read (Elt F) (m ((c : Thread nD τ).loc main_arg0))

/-- The row quarter of device `c` lies in the buffer, at any of the four column blocks. -/
theorem inb_x (c : Dev nD) (k : Fin 4) :
    ∀ a, (![0, 512 * (c.val / 8) + 256 * (c.val / 4 % 2), 512 * k.val] : Fin 3 → ℕ) a + S1x256x512.size a ≤ S1x1024x2048.size a := by
  revert c k; decide +kernel

/-- Device `c`'s quarter of the rows of its `x`, in column block `k`. -/
def xblk (c : Dev nD) (k : Fin 4) : Vec F S1x256x512 .f32 :=
  (Memref.whole cc0_stg0_0 : Memref sig .tc .vmem S1x1024x2048 .f32).view.readAt (Elt F)
    (Rect.unit (s := S1x1024x2048) ![0, 512 * (c.val / 8) + 256 * (c.val / 4 % 2), 512 * k.val] S1x256x512.size (inb_x c k)).toLoadRect (xstg m c)

/-! ## Partial sums along `z` -/

/-- One step of the sum running towards larger `z`: the device's own block plus what came in. -/
def addR (c : Dev nD) (b : Vec F S1x256x512 .f32) (v : FVec F S256x512 .f32) : FVec F S256x512 .f32 :=
  shapeCast S256x512 (k0_pay1 (w8 c) b (shapeCast S1x256x512 v shapeCasts_S256x512_S1x256x512)) shapeCasts_S1x256x512_S256x512
/-- One step of the sum running towards smaller `z`. -/
def addL (c : Dev nD) (b : Vec F S1x256x512 .f32) (v : FVec F S256x512 .f32) : FVec F S256x512 .f32 :=
  shapeCast S256x512 (k0_pay2 (w8 c) b (shapeCast S1x256x512 v shapeCasts_S256x512_S1x256x512)) shapeCasts_S1x256x512_S256x512

/-- The first device of a sum takes nothing in. -/
theorem addR_first (c : Dev nD) (h : zc c = 0) (b : Vec F S1x256x512 .f32) (v v' : FVec F S256x512 .f32) : addR c b v = addR c b v' := by
  have hw : Scalar.cmpi .eq (w8 c) 0#32 = 1 := (w8_eq0 c).2 h
  unfold addR k0_pay1; simp only [Scalar.select]; rw [if_pos hw, if_pos hw]
theorem addL_first (c : Dev nD) (h : zc c = 3) (b : Vec F S1x256x512 .f32) (v v' : FVec F S256x512 .f32) : addL c b v = addL c b v' := by
  have hw : Scalar.cmpi .eq (w8 c) 3#32 = 1 := (w8_eq3 c).2 h
  unfold addL k0_pay2; simp only [Scalar.select]; rw [if_pos hw, if_pos hw]

/-- A value to start from; it is never added (`addR_first`, `addL_first`). -/
def zero : FVec F S256x512 .f32 := broadcast S256x512 (Scalar.ofBits .f32 0x00000000#32)

/-- The partial sum of column block `j + 1` after `n` steps up to device `c`. -/
def rsumN : ℕ → Dev nD → Fin 3 → FVec F S256x512 .f32
  | 0, c, j => addR c (xblk m c j.succ) zero
  | n + 1, c, j => addR c (xblk m c j.succ) (rsumN n (zl c) j)
/-- The partial sum of column block `j` after `n` steps down to device `c`. -/
def lsumN : ℕ → Dev nD → Fin 3 → FVec F S256x512 .f32
  | 0, c, j => addL c (xblk m c j.castSucc) zero
  | n + 1, c, j => addL c (xblk m c j.castSucc) (lsumN n (zr c) j)

/-- What device `c` sends on in slot `j`. -/
def rsum (c : Dev nD) (j : Fin 3) : FVec F S256x512 .f32 := rsumN m (zc c) c j
def lsum (c : Dev nD) (j : Fin 3) : FVec F S256x512 .f32 := lsumN m (3 - zc c) c j

theorem rsum_first (c : Dev nD) (h : zc c = 0) (j : Fin 3) (v) : addR c (xblk m c j.succ) v = rsum m c j := by
  unfold rsum; rw [h]; exact addR_first c h _ _ _
theorem lsum_first (c : Dev nD) (h : zc c = 3) (j : Fin 3) (v) : addL c (xblk m c j.castSucc) v = lsum m c j := by
  unfold lsum; rw [h]; exact addL_first c h _ _ _
theorem rsum_step (c : Dev nD) (h : 1 ≤ zc c) (j : Fin 3) : addR c (xblk m c j.succ) (rsum m (zl c) j) = rsum m c j := by
  unfold rsum; rw [zc_zl c h]
  obtain ⟨n, hn⟩ : ∃ n, zc c = n + 1 := ⟨zc c - 1, by omega⟩
  rw [hn]; rfl
theorem lsum_step (c : Dev nD) (h : zc c ≤ 2) (j : Fin 3) : addL c (xblk m c j.castSucc) (lsum m (zr c) j) = lsum m c j := by
  unfold lsum; rw [zc_zr c h]
  obtain ⟨n, hn⟩ : ∃ n, 3 - zc c = n + 1 := ⟨2 - zc c, by omega⟩
  rw [hn, show 3 - (zc c + 1) = n by omega]; rfl

/-! ## The finished quarters -/

/-- What the final sum of device `c` reads of the two running sums. At an end of the line the value is not used. -/
def rin (c : Dev nD) : FVec F S256x512 .f32 := rsum m (if zc c = 0 then c else zl c) (fr c)
def lin (c : Dev nD) : FVec F S256x512 .f32 := lsum m (if zc c = 3 then c else zr c) (fl c)

/-- The column block a device finishes. -/
def zk (c : Dev nD) : Fin 4 := ⟨zc c, zc_lt c⟩

/-- The final sum of device `c`: its row quarter of its column block, summed along `z`. -/
def mine (c : Dev nD) : FVec F S256x512 .f32 :=
  k0_pay8 (k0_pay7 (w8 c) (xblk m c (zk c)) (shapeCast S1x256x512 (rin m c) shapeCasts_S256x512_S1x256x512))
    (Scalar.cmpi .slt (w8 c) 3#32) (shapeCast S1x256x512 (lin m c) shapeCasts_S256x512_S1x256x512)

/-- The device with the `z` of `c` that finishes row quarter `q`. -/
def qdev (c : Dev nD) (q : Fin 4) : Dev nD :=
  ⟨8 * (q.val / 2) + 4 * (q.val % 2) + zc c, by have := zc_lt c; have := q.isLt; change _ < 16; omega⟩

/-- The result on device `c`: each row quarter as the device that finishes it holds it. -/
def outAt (c : Dev nD) : (cc0_stg1_0 : Ref sig .tc).ty.Contents (Elt F) :=
  fun (i : S1024x512.Idx) => mine m (qdev c ⟨(i 0).val / 256, by have := (i 0).isLt; change _ < 1024 at this; omega⟩)
    (fun a => match a with
      | ⟨0, _⟩ => ⟨(i 0).val % 256, Nat.mod_lt _ (by decide)⟩
      | ⟨1, _⟩ => i 1)

end Cert.KernelIdeal.ReduceScatter
-- ==== Proof.KernelIdeal.Sched.lean ====
/-
# The schedule of the semaphores

Who pays which cell, with what, and in which order a device waits. The tables are in `Mesh`; here they become a
schedule of one round per cell. What a payment hands over:

* a neighbour's signal on the entry barrier hands over the slots the signalled device will copy into;
* a signal on the exit barrier hands over nothing;
* a landing copy hands its receiver the slot with the contents that were sent;
* the return of a copy hands the sender back the share of the source it lent.
-/
module

public import proofs.«01_k».proof.Proof.KernelIdeal.Contents

@[expose] public section

set_option backward.proofsInPublic true

noncomputable section

namespace Cert.KernelIdeal.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers -/

abbrev xM : Memref sig .tc .vmem S1x1024x2048 .f32 := Memref.whole cc0_stg0_0
abbrev oM : Memref sig .tc .vmem S1024x512 .f32 := Memref.whole cc0_stg1_0
abbrev mM : Memref sig .tc .vmem S256x512 .f32 := Memref.whole cc0_scratch0
abbrev rM : Memref sig .tc .vmem S3x256x512 .f32 := Memref.whole cc0_scratch1
abbrev lM : Memref sig .tc .vmem S3x256x512 .f32 := Memref.whole cc0_scratch2
abbrev xbM : Memref sig .tc .vmem S256x512 .f32 := Memref.whole cc0_scratch3
abbrev ybM : Memref sig .tc .vmem S256x512 .f32 := Memref.whole cc0_scratch4
abbrev dtM : Memref sig .tc .vmem S128x512 .f32 := Memref.whole cc0_scratch5
abbrev dbM : Memref sig .tc .vmem S128x512 .f32 := Memref.whole cc0_scratch6

theorem inb_slot (j : Fin 3) : ∀ a, (![j.val, 0, 0] : Fin 3 → ℕ) a + S1x256x512.size a ≤ S3x256x512.size a := by revert j; decide +kernel

/-- Slot `j` of a buffer of three: its rectangle, and the slot as 256 rows. -/
abbrev slotR (j : Fin 3) : Rect S3x256x512 := Rect.unit (s := S3x256x512) ![j.val, 0, 0] S1x256x512.size (inb_slot j)
abbrev slot (M : Memref sig .tc .vmem S3x256x512 .f32) (j : Fin 3) : Memref sig .tc .vmem S256x512 .f32 :=
  (M.slice (slotR j) (fun _ => rfl)).squeeze S256x512 squeezes_S1x256x512_S256x512

/-- The halves that are sent on. -/
abbrev xtM : Memref sig .tc .vmem S128x512 .f32 := xbM.slice topR (fun _ => rfl)
abbrev ybotM : Memref sig .tc .vmem S128x512 .f32 := ybM.slice botR (fun _ => rfl)

/-- Device `c` holds share `q` of buffer `M` with contents `X`. -/
abbrev own (c : Dev nD) {s : Shape} (M : Memref sig .tc .vmem s .f32) (q : PosShare TreeShare) (X : FVec F s .f32) : sProp 𝕄 :=
  owns (Ix := Unit) (Name := ℕ) (U := UU) (Lvl := ℕ) (c : Thread nD τ) M q X
/-- Device `c` holds buffer `M` with some contents. -/
def anyOf (c : Dev nD) {s : Shape} (M : Memref sig .tc .vmem s .f32) : sProp 𝕄 := iprop(∃ X : FVec F s .f32, own c M fullShare X)

instance anyOf_storable (c : Dev nD) {s : Shape} (M : Memref sig .tc .vmem s .f32) :
    BI.Storable (upEmb : UEmb _ 𝕄) (anyOf (F := F) c M) := by unfold anyOf; infer_instance

/-- `P` where `b` holds, nothing otherwise. -/
def opt (b : Prop) [Decidable b] (P : sProp 𝕄) : sProp 𝕄 := if b then P else iprop(emp)
theorem opt_pos {b : Prop} [Decidable b] (h : b) (P : sProp 𝕄) : opt (F := F) b P = P := if_pos h
theorem opt_neg {b : Prop} [Decidable b] (h : ¬ b) (P : sProp 𝕄) : opt (F := F) b P = iprop(emp) := if_neg h

instance opt_storable {b : Prop} [Decidable b] (P : sProp 𝕄) [BI.Storable (upEmb : UEmb _ 𝕄) P] :
    BI.Storable (upEmb : UEmb _ 𝕄) (opt (F := F) b P) := by unfold opt; split <;> infer_instance

/-! ## What the payments hand over -/

/-- What `c` is handed by signal `d` of its entry barrier: the slots it will copy into. -/
def barPay (c : Dev nD) (d : Fin 4) : sProp 𝕄 :=
  match d with
  | 0 => iprop(opt (zc c ≤ 0) (anyOf (zr c) (slot rM 0)) ∗ opt (zc c ≤ 1) (anyOf (zr c) (slot rM 1)) ∗ opt (zc c ≤ 2) (anyOf (zr c) (slot rM 2)))
  | 1 => iprop(opt (0 < zc c) (anyOf (zl c) (slot lM 0)) ∗ opt (1 < zc c) (anyOf (zl c) (slot lM 1)) ∗ opt (2 < zc c) (anyOf (zl c) (slot lM 2)))
  | 2 => iprop(anyOf (xn c) xbM ∗ anyOf (xn c) dbM)
  | 3 => iprop(anyOf (yn c) ybM ∗ anyOf (yn c) dtM)

/-- What payment `d` to semaphore `k` of device `c` hands over. -/
def payK (c : Dev nD) (k : Fin 22) (d : Fin 4) : sProp 𝕄 :=
  match k with
  | 0 => barPay c d
  | 1 => iprop(emp)
  | 2 => own c (slot rM 0) fullShare.left (rsum m c 0)
  | 3 => own c (slot rM 1) fullShare.left (rsum m c 1)
  | 4 => own c (slot rM 2) fullShare.left (rsum m c 2)
  | 5 => own c (slot rM 0) fullShare (rsum m (zl c) 0)
  | 6 => own c (slot rM 1) fullShare (rsum m (zl c) 1)
  | 7 => own c (slot rM 2) fullShare (rsum m (zl c) 2)
  | 8 => own c (slot lM 0) fullShare.left (lsum m c 0)
  | 9 => own c (slot lM 1) fullShare.left (lsum m c 1)
  | 10 => own c (slot lM 2) fullShare.left (lsum m c 2)
  | 11 => own c (slot lM 0) fullShare (lsum m (zr c) 0)
  | 12 => own c (slot lM 1) fullShare (lsum m (zr c) 1)
  | 13 => own c (slot lM 2) fullShare (lsum m (zr c) 2)
  | 14 => own c mM fullShare.left (mine m c)
  | 15 => own c mM fullShare.right (mine m c)
  | 16 => own c xtM fullShare.left (top (mine m (xn c)))
  | 17 => own c ybotM fullShare.left (bot (mine m (yn c)))
  | 18 => own c xbM fullShare (mine m (xn c))
  | 19 => own c ybM fullShare (mine m (yn c))
  | 20 => own c dtM fullShare (top (mine m (xn (yn c))))
  | 21 => own c dbM fullShare (bot (mine m (yn (xn c))))
  | ⟨_ + 22, h⟩ => absurd h (by omega)

instance payK_storable (c : Dev nD) (k : Fin 22) (d : Fin 4) : BI.Storable (upEmb : UEmb _ 𝕄) (payK m c k d) := by
  fin_cases k <;> (try fin_cases d) <;> (try unfold payK barPay) <;> dsimp only <;> infer_instance

/-- The schedule: one round, round 0. -/
def Rd : Rounds.Schedule (GSem nD τ sig) (Fin 4) 𝕄 where
  duties g r := if r = 0 ∧ g.1.2 = .tc ∧ csem (kOf g.2) = g.2 then duK g.1.1 (kOf g.2) else ∅
  unitless _ := False
  amount g _ _ := am (kOf g.2)
  payload g _ d := payK m g.1.1 (kOf g.2) d
  amount_pos g _ _ _ := am_pos _

instance Rd_payload_storable (g : GSem nD τ sig) (r : ℕ) (d : Fin 4) :
    BI.Storable (upEmb : UEmb _ 𝕄) ((Rd (F := F) m).payload g r d) := by
  show BI.Storable upEmb (payK m g.1.1 (kOf g.2) d); infer_instance

theorem duties_cell (c : Dev nD) (k : Fin 22) : (Rd (F := F) m).duties (kcell (c, k)) 0 = duK c k := by
  dsimp only [Rd, kcell]; rw [kOf_csem]; exact if_pos ⟨rfl, rfl, rfl⟩
theorem duties_later (g : GSem nD τ sig) : ∀ r, 1 ≤ r → (Rd (F := F) m).duties g r = ∅ :=
  fun r hr => by dsimp only [Rd]; exact if_neg fun h => by omega
theorem duties_unused (c : Dev nD) (k : Fin 22) (h : duK c k = ∅) : ∀ r, 0 ≤ r → (Rd (F := F) m).duties (kcell (c, k)) r = ∅ :=
  fun r hr => by
    rcases Nat.eq_zero_or_pos r with rfl | h'
    · rw [duties_cell, h]
    · exact duties_later m _ r h'
theorem amount_cell (c : Dev nD) (k : Fin 22) (r : ℕ) (d : Fin 4) : (Rd (F := F) m).amount (kcell (c, k)) r d = am k := by
  dsimp only [Rd, kcell]; rw [kOf_csem]
theorem payload_cell (c : Dev nD) (k : Fin 22) (r : ℕ) (d : Fin 4) : (Rd (F := F) m).payload (kcell (c, k)) r d = payK m c k d := by
  dsimp only [Rd, kcell]; rw [kOf_csem]

theorem duK_bar (c : Dev nD) (k : Fin 22) (h : k.val < 2) : duK c k = Finset.univ := if_pos h
theorem duK_one (c : Dev nD) (k : Fin 22) (h : 2 ≤ k.val) (hu : used c k = true) : duK c k = {0} := by
  unfold duK; rw [if_neg (by omega), if_pos hu]
theorem duK_none (c : Dev nD) (k : Fin 22) (h : 2 ≤ k.val) (hu : used c k = false) : duK c k = ∅ := by
  unfold duK; rw [if_neg (by omega), hu]; rfl

/-- What is expected of a cell in all. -/
def tot (c : Dev nD) (k : Fin 22) : ℕ := if k.val < 2 then 4 else if used c k then am k else 0

theorem expect_cell (c : Dev nD) (k : Fin 22) : (Rd (F := F) m).expect (kcell (c, k)) 0 = tot c k := by
  unfold Schedule.expect Schedule.amountOf
  rw [duties_cell, Finset.sum_congr rfl fun d _ => amount_cell m c k 0 d, Finset.sum_const, smul_eq_mul]
  unfold tot duK
  by_cases h : k.val < 2
  · rw [if_pos h, if_pos h, Finset.card_univ, Fintype.card_fin]; unfold am; rw [if_pos (by omega)]
  · rw [if_neg h, if_neg h]
    by_cases hu : used c k = true
    · rw [if_pos hu, if_pos hu, Finset.card_singleton, one_mul]
    · rw [if_neg hu, if_neg hu, Finset.card_empty, zero_mul]

/-- What a barrier hands over in all. -/
theorem rest_bar (c : Dev nD) (k : Fin 22) (h : k.val < 2) :
    bigSep ((Rd (F := F) m).duties (kcell (c, k)) 0 \ ∅) (fun d => (Rd (F := F) m).payload (kcell (c, k)) 0 d)
      = iprop(payK m c k 0 ∗ payK m c k 1 ∗ payK m c k 2 ∗ payK m c k 3) := by
  rw [Finset.sdiff_empty, duties_cell, duK_bar c k h, bigSep_univ_eq_bigSepL [0, 1, 2, 3] (by decide) (by decide)]
  simp only [payload_cell]; rfl
/-- What any other cell in use hands over. -/
theorem rest_one (c : Dev nD) (k : Fin 22) (h : 2 ≤ k.val) (hu : used c k = true) :
    bigSep ((Rd (F := F) m).duties (kcell (c, k)) 0 \ ∅) (fun d => (Rd (F := F) m).payload (kcell (c, k)) 0 d) = payK m c k 0 := by
  rw [Finset.sdiff_empty, duties_cell, duK_one c k h hu, bigSep_singleton, payload_cell]

/-! ## What each device owes at launch; the order of the waits -/

/-- Payment `s` of device `c`, as it is owed. -/
def ow (c : Dev nD) (s : Fin 28) : CellTallies nD τ sig Unit := if ok s c then tallyAt (kcell (tg s c, kk s)) () (am (kk s)) else 0
/-- What device `c` owes from payment `n` on. -/
def O (c : Dev nD) (n : ℕ) : CellTallies nD τ sig Unit := ∑ s : Fin 28, if n ≤ s.val then ow c s else 0

theorem O_peel (c : Dev nD) (s : Fin 28) : O c s.val = O c (s.val + 1) + ow c s := by
  unfold O
  rw [← Finset.sum_erase_add _ _ (Finset.mem_univ s), ← Finset.sum_erase_add (a := s) _ _ (Finset.mem_univ s), if_pos le_rfl,
    if_neg (by omega), add_zero]
  congr 1
  refine Finset.sum_congr rfl fun t ht => ?_
  have : t.val ≠ s.val := fun h => (Finset.mem_erase.1 ht).1 (Fin.ext h)
  by_cases h : s.val ≤ t.val
  · rw [if_pos h, if_pos (by omega)]
  · rw [if_neg h, if_neg (by omega)]
theorem O_skip (c : Dev nD) (s : Fin 28) (h : ok s c = false) : O c s.val = O c (s.val + 1) := by
  rw [O_peel]; unfold ow; rw [h]; exact add_zero _
theorem O_pay (c : Dev nD) (s : Fin 28) (h : ok s c = true) :
    O c s.val = O c (s.val + 1) + tallyAt (kcell (tg s c, kk s)) () (am (kk s)) := by
  rw [O_peel]; unfold ow; rw [h]; rfl
theorem O_end (c : Dev nD) : O c 18 = 0 := by
  unfold O
  refine Finset.sum_eq_zero fun s _ => ?_
  by_cases h : 18 ≤ s.val
  · rw [if_pos h]; unfold ow ok; rw [decide_eq_false (by omega)]; rfl
  · exact if_neg h

def L (g : GSem nD τ sig) : Finset Unit := if g.1.2 = .tc then {()} else ∅
/-- The level of a cell. Staging cells are lowest. -/
def lv (g : GSem nD τ sig) (_ : Unit) : ℕ := if csem (kOf g.2) = g.2 then lvK g.1.1 (kOf g.2) else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 22) : lv (kcell (c, k)) () = lvK c k := by
  unfold lv kcell; dsimp only; rw [kOf_csem]; exact if_pos rfl

theorem O_pos {c : Dev nD} {n : ℕ} {g : GSem nD τ sig} {u : Unit} (h : 0 < O c n g u) :
    ∃ s : Fin 28, n ≤ s.val ∧ ok s c = true ∧ g = kcell (tg s c, kk s) := by
  by_contra hn
  refine absurd h (Nat.not_lt.2 (Nat.le_of_eq ?_))
  unfold O
  rw [Finset.sum_apply, Finsupp.finset_sum_apply]
  refine Finset.sum_eq_zero fun s _ => ?_
  by_cases h1 : n ≤ s.val
  · rw [if_pos h1]; unfold ow
    by_cases h2 : ok s c = true
    · rw [if_pos h2, tallyAt_apply]; exact if_neg fun h3 => hn ⟨s, h1, h2, h3.1⟩
    · rw [if_neg h2]; rfl
  · rw [if_neg h1]; rfl

/-- A device may wait on a cell while it owes payments to higher cells only. -/
theorem mayWait_of (c : Dev nD) (sm : SemLoc sig) (n : ℕ)
    (h : ∀ s : Fin 28, n ≤ s.val → ok s c = true → lv ((c : Thread nD τ), sm) () < lvK (tg s c) (kk s)) :
    (levAts L lv : sProp 𝕄) ⊢ MayWait (c : Thread nD τ) sm () (O c n) :=
  MayOwe.of_cut (L := L) (lev := lv) (lv ((c : Thread nD τ), sm) ()) (fun p hp => by rw [Finset.mem_singleton.mp hp, L_tc]; exact Finset.mem_singleton_self _)
    (fun g u hg => by obtain ⟨s, -, -, rfl⟩ := O_pos hg; exact Finset.mem_singleton_self _)
    (fun p hp => by rw [Finset.mem_singleton.mp hp])
    (fun g u hg => by obtain ⟨s, hn, hs, rfl⟩ := O_pos hg; rw [lv_cell]; exact h s hn hs)

end Cert.KernelIdeal.ReduceScatter
-- ==== Proof.KernelIdeal.Steps.lean ====
/-
# The steps of the program

One lemma for each kind of operation: a signal, a copy to another device, a wait, a read and a write of a buffer. Each
says what the operation takes and what it gives, for any payment or semaphore of the tables.
-/
module

public import proofs.«01_k».proof.Proof.KernelIdeal.Sched
public import Idealize.ShloMosaic.Lib.Pipeline.Value
public import Idealize.ShloMosaic.Lib.MemrefSat

@[expose] public section

set_option backward.proofsInPublic true

noncomputable section

namespace Cert.KernelIdeal.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs the program `e` to a result of which `Q` holds. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## What every device knows; what it owes -/

/-- The invariants of all cells. -/
def recs (K : Dev nD × Fin 22 → ℕ) : sProp 𝕄 :=
  bigSep Finset.univ fun ck : Dev nD × Fin 22 => iprop(cellInv ER (Rd m) (K ck) (kcell ck) ∗ reached ER (kcell ck) 0)

instance recs_persistent (K : Dev nD × Fin 22 → ℕ) : BI.Persistent (recs m K) := by unfold recs; infer_instance

theorem recs_at (K : Dev nD × Fin 22 → ℕ) (ck : Dev nD × Fin 22) :
    recs m K ⊢ iprop(cellInv ER (Rd m) (K ck) (kcell ck) ∗ reached ER (kcell ck) 0) :=
  bigSep_elim (Φ := fun ck : Dev nD × Fin 22 => iprop(cellInv ER (Rd m) (K ck) (kcell ck) ∗ reached ER (kcell ck) 0)) (Finset.mem_univ ck)

/-- Device `c` owes its payments from number `n` on. -/
def Ow (c : Dev nD) (n : ℕ) : sProp 𝕄 := iprop(∃ W, owes (c : Thread nD τ) (O c n) W)

/-- The right to make payment `s`, held by the device that makes it. -/
abbrev tok (c : Dev nD) (s : Fin 28) : sProp 𝕄 := dutyTok ER (kcell (tg s c, kk s)) 0 (dd s)
/-- The right to wait for semaphore `k`, and its end. -/
abbrev pos0 (c : Dev nD) (k : Fin 22) : sProp 𝕄 := atPos ER (kcell (c, k)) 0 ∅ 0
abbrev pos1 (c : Dev nD) (k : Fin 22) : sProp 𝕄 := atPos ER (kcell (c, k)) 1 ∅ 0
/-- What a wait for semaphore `k` spends. -/
abbrev crd (c : Dev nD) (k : Fin 22) : sProp 𝕄 := cred (tallyAt (kcell (c, k)) () (tot c k))

theorem Ow_skip (c : Dev nD) (s : Fin 28) (h : ok s c = false) : (Ow c s.val : sProp 𝕄) ⊢ Ow c (s.val + 1) := by
  unfold Ow; rw [O_skip c s h]

/-! ## Signals, copies, waits -/

variable (K : Dev nD × Fin 22 → ℕ)

theorem dd_mem (c : Dev nD) (s : Fin 28) (hu : used (tg s c) (kk s) = true) (hs : 2 ≤ (kk s).val → dd s = 0) : dd s ∈ duK (tg s c) (kk s) := by
  unfold duK
  by_cases h : (kk s).val < 2
  · rw [if_pos h]; exact Finset.mem_univ _
  · rw [if_neg h, if_pos hu, hs (by omega)]; exact Finset.mem_singleton_self _

theorem csem_reg (k : Fin 22) (h : k.val < 2) (q : DmaSem sig) : csem k ≠ .dma q := by
  unfold csem
  by_cases h0 : k = 0
  · rw [if_pos h0]; intro h; cases h
  · have h1 : k = 1 := Fin.ext (by have : k.val ≠ 0 := fun h => h0 (Fin.ext h); change k.val = 1; omega)
    rw [if_neg h0, if_pos h1]; intro h; cases h

theorem dd_zero (s : Fin 28) : 2 ≤ (kk s).val → dd s = 0 := by revert s; decide +kernel

/-- A signal: payment `s`, one of a barrier. -/
theorem step_signal (c : Dev nD) (s : Fin 28) (a a' : ℕ) (ha : s.val = a) (ha' : a + 1 = a') {n : Dev nD} (hn : n = tg s c) {P : sProp 𝕄} (hP : payK m (tg s c) (kk s) (dd s) = P) {sem : Sem sig} (hsem : csem (kk s) = .reg sem)
    (hok : ok s c = true) (ham : am (kk s) = 1) {α : Type} {k : PUnit → Prog (TpuEff nD τ sig (Elt F) Λ₀ .tc) α} {Q : α → sProp 𝕄} :
    iprop(recs m K ∗ Ow c a ∗ tok c s ∗ P)
      ⊢ iprop((Ow c a' -∗ WP c (k ⟨⟩) Q) -∗ WP c (.op (.semSignal (n : Thread nD τ) sem (1#32 : BitVec 32).toInt) k) Q) := by
  subst hn ha hP ha'
  have hu : used (tg s c) (kk s) = true := by unfold ok at hok; exact ((Bool.and_eq_true _ _).mp hok).2
  have hc : kcell (tg s c, kk s) = ((tg s c : Thread nD τ), SemLoc.reg sem) := by unfold kcell; rw [hsem]
  unfold Ow
  iintro ⟨#HR, ⟨%W, HO⟩, Ht, Hp⟩ Hk
  ihave HI := (recs_at m K (tg s c, kk s)) $$ HR
  icases HI with ⟨#HI, #Hr⟩
  unfold tok
  have hd : dd s ∈ (Rd (F := F) m).duties ((tg s c : Thread nD τ), SemLoc.reg sem) 0 := by
    rw [← hc, duties_cell]; exact dd_mem c s hu (dd_zero s)
  have ha : (Rd (F := F) m).amount ((tg s c : Thread nD τ), SemLoc.reg sem) 0 (dd s) = 1 := by rw [← hc, amount_cell, ham]
  have hO := O_pay c s hok
  have hpp := payload_cell (F := F) m (tg s c) (kk s) 0 (dd s)
  rw [hc] at hpp hO ⊢
  rw [ham] at hO
  iapply (Rounds.wp_signal 𝒱₀ ER (Rd m) (c : Thread nD τ) none (dst := (tg s c : Thread nD τ)) (κ := K (tg s c, kk s)) hd ha () (O c (s.val + 1)) hO) $$ [HO Ht Hp]
  · isplitr; · iexact HI
    isplitl [HO]; · iexact HO
    isplitl [Ht]; · iexact Ht
    isplitl [Hp]
    · rw [hpp]; iexact Hp
    · iexact Hr
  iintro HO
  iapply Hk
  iexists W
  iexact HO

/-- A copy to another device: payment `s` there, and payment `s'` to the sender's own semaphore when it is done. -/
theorem step_send (c : Dev nD) (s s' : Fin 28) (a a' : ℕ) (ha : s.val = a) (ha' : a + 1 = a') {d : Dev nD} (hd : tg s c = d) {k₀ k₁ : Fin 22} (hk₀ : kk s' = k₀) (hk₁ : kk s = k₁) {n : Dev nD} (hn : n = d) {sh : Shape} {src dst : Memref sig .tc .vmem sh .f32} {q : PosShare TreeShare}
    {X : FVec F sh .f32}
    {sS sD : DmaSem sig} (hsS : csem (kk s') = .dma sS) (hsD : csem (kk s) = .dma sD) (hok : ok s c = true) (htg : tg s' c = c) (hus : used c (kk s') = true)
    (hN : dst.view.dmaCredit = am (kk s)) (ham : am (kk s') = am (kk s))
    (h2 : 2 ≤ (kk s').val)
    (hpS : payK m c (kk s') 0 = own c src q X) (hpD : payK m d k₁ 0 = own d dst fullShare X)
    {hsc : dst.view.ref.isScScratch = false}
    {hsrc : src.view.WordExact} {hdst : dst.view.WordExact}
    {hsem : DmaTarget.Typed .vmem (.dma sD) (.remote (Dev.tc n : Thread nD τ) dst (.dma sS) hsc)}
    {α : Type} {k : PUnit → Prog (TpuEff nD τ sig (Elt F) Λ₀ .tc) α} {Q : α → sProp 𝕄} :
    iprop(recs m K ∗ own c src q X ∗ anyOf d dst ∗ Ow c a ∗ tok c s' ∗ tok c s)
      ⊢ iprop(((crd c k₀ ∗ Ow c a') -∗ WP c (k ⟨⟩) Q)
          -∗ WP c (.op (.enqueueDma src (.remote (Dev.tc n : Thread nD τ) dst (.dma sS) hsc) (.dma sD) hsrc hdst hsem) k) Q) := by
  subst hn ha hk₀ hk₁ ha'; subst hd
  have hu : used (tg s c) (kk s) = true := by unfold ok at hok; exact ((Bool.and_eq_true _ _).mp hok).2
  have h2D : 2 ≤ (kk s).val := by
    rcases Nat.lt_or_ge (kk s).val 2 with h | h
    · exact absurd hsD (csem_reg _ h _)
    · exact h
  have hcS : kcell (c, kk s') = ((c : Thread nD τ), SemLoc.dma sS) := by unfold kcell; rw [hsS]
  have hcD : kcell (tg s c, kk s) = ((tg s c : Thread nD τ), SemLoc.dma sD) := by unfold kcell; rw [hsD]
  have hdS : dd s' ∈ (Rd (F := F) m).duties (kcell (c, kk s')) 0 := by
    rw [duties_cell]; have h := dd_mem c s' (by rw [htg]; exact hus) (dd_zero s'); rwa [htg] at h
  have hdD : dd s ∈ (Rd (F := F) m).duties (kcell (tg s c, kk s)) 0 := by rw [duties_cell]; exact dd_mem c s hu (dd_zero s)
  have haS : (Rd (F := F) m).amount (kcell (c, kk s')) 0 (dd s') = am (kk s) := by rw [amount_cell, ham]
  have haD : (Rd (F := F) m).amount (kcell (tg s c, kk s)) 0 (dd s) = am (kk s) := by rw [amount_cell]
  have hO := O_pay c s hok
  have hppS : (Rd (F := F) m).payload (kcell (c, kk s')) 0 (dd s') = own c src q X := by rw [payload_cell, dd_zero s' h2]; exact hpS
  have hppD : (Rd (F := F) m).payload (kcell (tg s c, kk s)) 0 (dd s) = own (tg s c) dst fullShare X := by rw [payload_cell, dd_zero s h2D]; exact hpD
  have htot : tot c (kk s') = am (kk s) := by unfold tot; rw [if_neg (by omega), if_pos hus, ham]
  unfold Ow anyOf own owns tok crd
  rw [htg, htot]
  iintro ⟨#HR, ⟨%fs, %hfs, Hsrc⟩, ⟨%Y, %fd, %hfd, Hdst⟩, ⟨%W, HO⟩, HtS, HtD⟩ Hk
  ihave HI := (recs_at m K (tg s c, kk s)) $$ HR
  icases HI with ⟨#HID, #HrD⟩
  ihave HI' := (recs_at m K (c, kk s')) $$ HR
  icases HI' with ⟨#HIS, #HrS⟩
  rw [hcS] at hdS haS hppS ⊢
  rw [hcD] at hdD haD hppD hO ⊢
  iapply (Rounds.wp_send_pointsTo 𝒱₀ ER (Rd m) (c : Thread nD τ) none (κ₁ := K (c, kk s')) (κ₂ := K (tg s c, kk s))
    (r₁ := 0) (r₂ := 0) (d₁ := dd s') (d₂ := dd s) (fd := fd) hdS hdD () () (am (kk s)) hN haS haD (O c (s.val + 1)) hO (W := W)
    (by rw [hppS, ← hfs]; exact owns_intro _ _ _ _)
    (by rw [hppD, ← hfs]
        refine (owns_intro _ _ _ _).trans (Entails.of_eq ?_)
        rw [View.read_write_univ])) $$ [Hsrc Hdst HO HtS HtD]
  · isplitr; · iexact HIS
    isplitr; · iexact HID
    isplitl [Hsrc]; · iexact Hsrc
    isplitl [Hdst]; · iexact Hdst
    isplitl [HO]; · iexact HO
    isplitl [HtS]; · iexact HtS
    isplitr; · iexact HrS
    isplitl [HtD]; · iexact HtD
    iexact HrD
  iintro ⟨HcS, HO⟩
  iapply Hk
  isplitl [HcS]; · iexact HcS
  iexists W; iexact HO

/-- A wait for a copy, on a semaphore in use: it gives what the one payment hands over. -/
theorem step_wait (c : Dev nD) (k : Fin 22) (n : ℕ) {sm : DmaSem sig} (hsem : csem k = .dma sm) (h2 : 2 ≤ k.val) (hu : used c k = true)
    {s s' : Shape} {e e' : EltTy} {src : Memref sig .tc .vmem s' e'} {dst : Memref sig .tc .vmem s e} {hsrc : src.view.WordExact} {hdst : dst.view.WordExact}
    (hN : dst.view.dmaCredit = am k) (hlv : ∀ s : Fin 28, n ≤ s.val → ok s c = true → lvK c k < lvK (tg s c) (kk s))
    {α : Type} {j : PUnit → Prog (TpuEff nD τ sig (Elt F) Λ₀ .tc) α} {Q : α → sProp 𝕄} :
    iprop(recs m K ∗ levAts L lv ∗ crd c k ∗ Ow c n ∗ pos0 c k)
      ⊢ iprop(((Ow c n ∗ pos1 c k ∗ payK m c k 0) -∗ WP c (j ⟨⟩) Q) -∗ WP c (.op (.waitDma2 sm src dst hsrc hdst) j) Q) := by
  have hc : kcell (c, k) = ((c : Thread nD τ), SemLoc.dma sm) := by unfold kcell; rw [hsem]
  have htot : tot c k = am k := by unfold tot; rw [if_neg (by omega), if_pos hu]
  have hex := expect_cell (F := F) m c k
  have hrest := rest_one (F := F) m c k h2 hu
  have hmw : (levAts L lv : sProp 𝕄) ⊢ MayWait (c : Thread nD τ) (.dma sm) () (O c n) :=
    mayWait_of c _ n (by rw [← hc, lv_cell]; exact hlv)
  unfold Ow crd pos0 pos1
  iintro ⟨#HR, #Hlev, Hc, ⟨%W, HO⟩, Hat⟩ Hk
  ihave HI := (recs_at m K (c, k)) $$ HR
  icases HI with ⟨#HI, -⟩
  rw [htot] at hex ⊢
  rw [hc] at hex hrest ⊢
  rw [← hN]
  iapply (Rounds.wp_wait_rest_token 𝒱₀ ER (Rd m) (c : Thread nD τ) none (κ := K (c, k))
      (wpE_waitDma2_eq 𝒱₀ (c : Thread nD τ) none Set.univ) (Set.mem_univ _) () (O := O c n) (W := W) (R := 0) (m := 0) (T := ∅)
      (by rw [hex, hN, Nat.zero_add])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq hrest) $$ Hpay
  iapply Hk
  isplitl [HO]; · iexists _; iexact HO
  isplitl [Hat]; · iexact Hat
  iexact Hp

/-- A wait for the four signals of a barrier. -/
theorem step_barrier (c : Dev nD) (k : Fin 22) (n : ℕ) {sm : Sem sig} (hsem : csem k = .reg sm) (h2 : k.val < 2)
    (hlv : ∀ s : Fin 28, n ≤ s.val → ok s c = true → lvK c k < lvK (tg s c) (kk s))
    {α : Type} {j : PUnit → Prog (TpuEff nD τ sig (Elt F) Λ₀ .tc) α} {Q : α → sProp 𝕄} :
    iprop(recs m K ∗ levAts L lv ∗ crd c k ∗ Ow c n ∗ pos0 c k)
      ⊢ iprop(((Ow c n ∗ pos1 c k ∗ payK m c k 0 ∗ payK m c k 1 ∗ payK m c k 2 ∗ payK m c k 3) -∗ WP c (j ⟨⟩) Q)
          -∗ WP c (.op (.semWait sm (4#32 : BitVec 32).toInt) j) Q) := by
  have hc : kcell (c, k) = ((c : Thread nD τ), SemLoc.reg sm) := by unfold kcell; rw [hsem]
  have htot : tot c k = 4 := by unfold tot; rw [if_pos h2]
  have hex := expect_cell (F := F) m c k
  have hrest := rest_bar (F := F) m c k h2
  have hmw : (levAts L lv : sProp 𝕄) ⊢ MayWait (c : Thread nD τ) (.reg sm) () (O c n) :=
    mayWait_of c _ n (by rw [← hc, lv_cell]; exact hlv)
  unfold Ow crd pos0 pos1
  iintro ⟨#HR, #Hlev, Hc, ⟨%W, HO⟩, Hat⟩ Hk
  ihave HI := (recs_at m K (c, k)) $$ HR
  icases HI with ⟨#HI, -⟩
  rw [htot] at hex ⊢
  rw [hc] at hex hrest ⊢
  iapply (Rounds.wp_wait_rest_token 𝒱₀ ER (Rd m) (c : Thread nD τ) none (κ := K (c, k)) (k' := 4)
      (wpE_semWait_eq 𝒱₀ (c : Thread nD τ) none Set.univ) (Set.mem_univ _) () (O := O c n) (W := W) (R := 0) (m := 0) (T := ∅)
      (by rw [hex])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq hrest) $$ Hpay
  iapply Hk
  isplitl [HO]; · iexists _; iexact HO
  isplitl [Hat]; · iexact Hat
  iexact Hp

/-! ## Reads and writes -/

/-- A read of slot `j`, through the buffer. -/
theorem step_load_slot (c : Dev nD) (M : Memref sig .tc .vmem S3x256x512 .f32) (j : Fin 3) (q : PosShare TreeShare) (v : FVec F S256x512 .f32)
    {o : Fin 3 → ℕ} (ho : o = ![j.val, 0, 0]) {inb : ∀ a, o a + S1x256x512.size a ≤ S3x256x512.size a}
    {hl : M.view.LoadsAt (Rect.unit (s := S3x256x512) o S1x256x512.size inb).toLoadRect}
    {α : Type} {k : Vec F S1x256x512 .f32 → Prog (TpuEff nD τ sig (Elt F) Λ₀ .tc) α} {Q : α → sProp 𝕄} :
    own c (slot M j) q v
      ⊢ iprop((own c (slot M j) q v -∗ WP c (k (shapeCast S1x256x512 v shapeCasts_S256x512_S1x256x512)) Q)
          -∗ WP c (.op (.load M (Rect.unit (s := S3x256x512) o S1x256x512.size inb).toLoadRect hl) k) Q) := by
  subst ho
  unfold own owns
  iintro ⟨%f, %hf, H⟩ Hk
  have hset : (M.access (slotR j)).set ⊆ (slot M j).view.set := by rw [View.set_reshape]
  have hv : (M.access (slotR j)).read (Elt F) f = shapeCast S1x256x512 v shapeCasts_S256x512_S1x256x512 := by
    rw [← hf]
    exact (shapeCast_shapeCast ((M.access (slotR j)).read (Elt F) f) shapeCasts_S1x256x512_S256x512 shapeCasts_S256x512_S1x256x512).symm
  iapply (wp_load_rect 𝒱₀ (c : Thread nD τ) none Set.univ (m := M) (r := slotR j) (f := f) hset) $$ H
  iintro H
  rw [hv]
  iapply Hk
  iexists f
  isplitr; · ipureintro; exact hf
  iexact H

/-- A write of slot `j`, through the buffer. -/
theorem step_store_slot (c : Dev nD) (M : Memref sig .tc .vmem S3x256x512 .f32) (j : Fin 3) (v : FVec F S256x512 .f32) (w : Vec F S1x256x512 .f32)
    {o : Fin 3 → ℕ} (ho : o = ![j.val, 0, 0]) {inb : ∀ a, o a + S1x256x512.size a ≤ S3x256x512.size a}
    {hx : (M.access (Rect.unit (s := S3x256x512) o S1x256x512.size inb)).Stores Finset.univ} {hm}
    {α : Type} {k : PUnit → Prog (TpuEff nD τ sig (Elt F) Λ₀ .tc) α} {Q : α → sProp 𝕄} :
    own c (slot M j) fullShare v
      ⊢ iprop((own c (slot M j) fullShare (shapeCast S256x512 w shapeCasts_S1x256x512_S256x512) -∗ WP c (k ⟨⟩) Q)
          -∗ WP c (.op (.store M (Rect.unit (s := S3x256x512) o S1x256x512.size inb) w Finset.univ hx hm) k) Q) := by
  subst ho
  unfold own owns
  iintro ⟨%f, %hf, H⟩ Hk
  have hset : (M.access (slotR j)).setOn Finset.univ ⊆ (slot M j).view.set := by rw [View.set_reshape, View.setOn_univ]
  iapply (wp_store 𝒱₀ (c : Thread nD τ) none Set.univ (m := M) (r := slotR j) (Mk := Finset.univ) (f := f) hset) $$ H
  iintro H
  iapply Hk
  iexists ((M.access (slotR j)).write (Elt F) f w Finset.univ)
  isplitr
  · ipureintro
    show shapeCast S256x512 ((M.access (slotR j)).read (Elt F) ((M.access (slotR j)).write (Elt F) f w Finset.univ)) shapeCasts_S1x256x512_S256x512 = _
    rw [View.read_write_univ]
  iexact H

theorem hz : (![0, 0] : Fin 2 → ℕ) = fun _ => 0 := funext fun a => by fin_cases a <;> rfl

/-- What is read of a buffer in all. -/
theorem read_all {s : Shape} (M : Memref sig .tc .vmem s .f32) {o : Fin s.rank → ℕ} (ho : o = fun _ => 0) {inb : ∀ a, o a + s.size a ≤ s.size a}
    (f : M.view.ty.Contents (Elt F)) :
    (M.access (Rect.unit (s := s) o s.size inb)).read (Elt F) f = M.view.read (Elt F) f := by
  subst ho
  funext x
  show M.view.read (Elt F) f ((Rect.whole s).emb x) = _
  rw [Rect.emb_whole_apply]

/-- A read of a whole buffer. -/
theorem step_load (c : Dev nD) {s : Shape} (M : Memref sig .tc .vmem s .f32) (q : PosShare TreeShare) (X : FVec F s .f32)
    {o : Fin s.rank → ℕ} (ho : o = fun _ => 0) {inb : ∀ a, o a + s.size a ≤ s.size a} {hl : M.view.LoadsAt (Rect.unit (s := s) o s.size inb).toLoadRect}
    {α : Type} {k : ((Rect.unit (s := s) o s.size inb).shape.Idx → Elt F .f32) → Prog (TpuEff nD τ sig (Elt F) Λ₀ .tc) α} {Q : α → sProp 𝕄} :
    own c M q X
      ⊢ iprop((own c M q X -∗ WP c (k X) Q) -∗ WP c (.op (.load M (Rect.unit (s := s) o s.size inb).toLoadRect hl) k) Q) := by
  unfold own owns
  iintro ⟨%f, %hf, H⟩ Hk
  iapply (wp_load_rect 𝒱₀ (c : Thread nD τ) none Set.univ (m := M) (r := Rect.unit (s := s) o s.size inb) (f := f) (View.set_slice_subset _ _)) $$ H
  iintro H
  rw [read_all M ho, hf]
  iapply Hk
  iexists f
  isplitr; · ipureintro; exact hf
  iexact H

/-- A write of a whole buffer. -/
theorem step_store (c : Dev nD) {s : Shape} (M : Memref sig .tc .vmem s .f32) (X w : FVec F s .f32)
    {o : Fin s.rank → ℕ} (ho : o = fun _ => 0) {inb : ∀ a, o a + s.size a ≤ s.size a}
    {hx : (M.access (Rect.unit (s := s) o s.size inb)).Stores Finset.univ} {hm}
    {α : Type} {k : PUnit → Prog (TpuEff nD τ sig (Elt F) Λ₀ .tc) α} {Q : α → sProp 𝕄} :
    own c M fullShare X
      ⊢ iprop((own c M fullShare w -∗ WP c (k ⟨⟩) Q)
          -∗ WP c (.op (.store M (Rect.unit (s := s) o s.size inb) w Finset.univ hx hm) k) Q) := by
  unfold own owns
  iintro ⟨%f, %hf, H⟩ Hk
  iapply (wp_store 𝒱₀ (c : Thread nD τ) none Set.univ (m := M) (r := Rect.unit (s := s) o s.size inb) (Mk := Finset.univ) (f := f)
    (by rw [View.setOn_univ]; exact View.set_slice_subset _ _)) $$ H
  iintro H
  iapply Hk
  iexists ((M.access (Rect.unit (s := s) o s.size inb)).write (Elt F) f w Finset.univ)
  isplitr
  · ipureintro
    rw [← read_all M ho (inb := inb), View.read_write_univ]
  iexact H

/-- The result buffer of device `c`, finished at the indices `P`. -/
def outs (c : Dev nD) (P : S1024x512.Idx → Prop) : sProp 𝕄 :=
  iprop(∃ f : FVec F S1024x512 .f32, ⌜∀ i, P i → f i = outAt m c i⌝ ∗ own c oM fullShare f)

/-- A read of some of the result buffer; the program does not use it. -/
theorem step_load_out (c : Dev nD) (P : S1024x512.Idx → Prop) {r : Rect S1024x512} {hl : oM.view.LoadsAt r.toLoadRect}
    {α : Type} {k : (r.shape.Idx → Elt F .f32) → Prog (TpuEff nD τ sig (Elt F) Λ₀ .tc) α} {Q : α → sProp 𝕄} :
    outs m c P ⊢ iprop((∀ v, outs m c P -∗ WP c (k v) Q) -∗ WP c (.op (.load oM r.toLoadRect hl) k) Q) := by
  unfold outs own owns
  iintro ⟨%X, %hX, %f, %hf, H⟩ Hk
  iapply (wp_load_rect 𝒱₀ (c : Thread nD τ) none Set.univ (m := oM) (r := r) (f := f) (View.set_slice_subset _ _)) $$ H
  iintro H
  iapply Hk
  iexists X
  isplitr; · ipureintro; exact hX
  iexists f
  isplitr; · ipureintro; exact hf
  iexact H

/-- A write of a rectangle of the result buffer with what belongs there. -/
theorem step_store_out (c : Dev nD) (P : S1024x512.Idx → Prop) {r : Rect S1024x512} {w : r.shape.Idx → F .f32} (hw : ∀ j, w j = outAt m c (r.emb j))
    {hx : (oM.access r).Stores Finset.univ} {hm}
    {α : Type} {k : PUnit → Prog (TpuEff nD τ sig (Elt F) Λ₀ .tc) α} {Q : α → sProp 𝕄} :
    outs m c P
      ⊢ iprop((outs m c (fun i => P i ∨ ∃ j, r.emb j = i) -∗ WP c (k ⟨⟩) Q)
          -∗ WP c (.op (.store oM r w Finset.univ hx hm) k) Q) := by
  unfold outs own owns
  iintro ⟨%X, %hX, %f, %hf, H⟩ Hk
  iapply (wp_store 𝒱₀ (c : Thread nD τ) none Set.univ (m := oM) (r := r) (Mk := Finset.univ) (f := f)
    (by rw [View.setOn_univ]; exact View.set_slice_subset _ _)) $$ H
  iintro H
  iapply Hk
  iexists (oM.view.read (Elt F) ((oM.access r).write (Elt F) f w Finset.univ))
  isplitr
  · ipureintro
    rintro i hi
    by_cases hj : ∃ j, r.emb j = i
    · obtain ⟨j, rfl⟩ := hj
      rw [← hw j]
      exact View.read_slice_write_emb (v := oM.view) r f w (Finset.mem_univ j)
    · rw [← hX i (hi.resolve_right hj), ← hf]
      exact View.read_slice_write_of_not_mem (v := oM.view) r f w Finset.univ fun h => hj (by obtain ⟨j, -, hj⟩ := Finset.mem_map.1 h; exact ⟨j, hj⟩)
  iexists _
  isplitr; · ipureintro; rfl
  iexact H

/-! ## Shares and halves -/

theorem own_split (c : Dev nD) {s : Shape} (M : Memref sig .tc .vmem s .f32) (X : FVec F s .f32) :
    own c M fullShare X ⊣⊢ iprop(own c M fullShare.left X ∗ own c M fullShare.right X) :=
  ownsSat_share (Val := Elt F) (c : Thread nD τ) M (fun Y : s.Idx → Elt F .f32 => Y = X) (PosShare.mem_left_op_right fullShare)

theorem own_any (c : Dev nD) {s : Shape} (M : Memref sig .tc .vmem s .f32) (X : FVec F s .f32) : own c M fullShare X ⊢ anyOf c M := by
  unfold anyOf; iintro H; iexists X; iexact H

/-- The rest of a share of a buffer with contents `X` when a part is taken out. -/
def restOf (c : Dev nD) (M : Memref sig .tc .vmem S256x512 .f32) (r : Rect S256x512) (hr : ∀ a, r.stride a = 1) (q : PosShare TreeShare)
    (X : FVec F S256x512 .f32) : sProp 𝕄 :=
  iprop(∃ f, ⌜M.view.read (Elt F) f = X⌝ ∗ M.view.loc (c : Thread nD τ) ↦[M.view.set \ (M.slice r hr).view.set]{q} f)

/-- A part is taken out of a buffer, -/
theorem own_take (c : Dev nD) (M : Memref sig .tc .vmem S256x512 .f32) (r : Rect S256x512) (hr : ∀ a, r.stride a = 1) (q : PosShare TreeShare)
    (X : FVec F S256x512 .f32) :
    own c M q X ⊢ iprop(owns (Ix := Unit) (Name := ℕ) (U := UU) (Lvl := ℕ) (c : Thread nD τ) (M.slice r hr) q (fun i => X (r.emb i)) ∗ restOf c M r hr q X) :=
  owns_slice_split (Val := Elt F) (c : Thread nD τ) M q r hr X
/-- and put back. -/
theorem own_put (c : Dev nD) (M : Memref sig .tc .vmem S256x512 .f32) (r : Rect S256x512) (hr : ∀ a, r.stride a = 1) (q : PosShare TreeShare)
    (X : FVec F S256x512 .f32) :
    iprop(owns (Ix := Unit) (Name := ℕ) (U := UU) (Lvl := ℕ) (c : Thread nD τ) (M.slice r hr) q (fun i => X (r.emb i)) ∗ restOf c M r hr q X) ⊢ own c M q X := by
  unfold restOf
  iintro ⟨H, %f, %hf, Hr⟩
  have h := owns_slice_join (Ix := Unit) (Name := ℕ) (U := UU) (Lvl := ℕ) (Val := Elt F) (c : Thread nD τ) M q r hr (fun i => X (r.emb i)) f
  have he : r.overlay (M.view.read (Elt F) f) (fun i => X (r.emb i)) = X := by
    rw [hf]; funext i
    by_cases hi : ∃ j, r.emb j = i
    · obtain ⟨j, rfl⟩ := hi; exact Rect.overlay_emb _ _ _ _
    · exact Rect.overlay_of_not_mem _ _ _ (fun h => hi (by rw [← Rect.map_emb_univ] at h; obtain ⟨j, -, hj⟩ := Finset.mem_map.1 h; exact ⟨j, hj⟩))
  rw [he] at h
  iapply h
  isplitl [H]; · iexact H
  iexact Hr

/-- A program that has come to its end has what its postcondition says of the result. -/
theorem step_ret (c : Dev nD) {α : Type} (a : α) {Q : α → sProp 𝕄} : Q a ⊢ WP (F := F) c (.ret a) Q := by
  unfold WP; rw [wp_ret]; iintro H; imodintro; iexact H

end Cert.KernelIdeal.ReduceScatter
-- ==== Proof.KernelIdeal.Blocks.lean ====
/-
# The conditional steps

The program's conditionals are of two kinds: a wait that some devices make, and one step of a running sum, sent on, that
some devices make. Both are one lemma here, with the resources of a device that skips the step left out (`opt`).
-/
module

public import proofs.«01_k».proof.Proof.KernelIdeal.Steps

@[expose] public section

set_option backward.proofsInPublic true

noncomputable section

namespace Cert.KernelIdeal.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 22 → ℕ)

/-! ## `opt` -/

/-- Resources may be left out. -/
theorem opt_drop {b : Prop} [Decidable b] (P : sProp 𝕄) : P ⊢ opt b P := by
  unfold opt; by_cases hb : b
  · rw [if_pos hb]
  · rw [if_neg hb]; iintro -; iempintro

theorem opt_sep {b : Prop} [Decidable b] (P Q : sProp 𝕄) : iprop(opt b P ∗ opt b Q) ⊢ opt b iprop(P ∗ Q) := by
  unfold opt; by_cases hb : b
  · rw [if_pos hb, if_pos hb, if_pos hb]
  · rw [if_neg hb, if_neg hb, if_neg hb]; iintro -; iempintro

theorem opt_unsep {b : Prop} [Decidable b] (P Q : sProp 𝕄) : opt b iprop(P ∗ Q) ⊢ iprop(opt b P ∗ opt b Q) := by
  unfold opt; by_cases hb : b
  · rw [if_pos hb, if_pos hb, if_pos hb]
  · rw [if_neg hb, if_neg hb, if_neg hb]; iintro -; isplitl [] <;> iempintro

/-- Resources go where they are needed, when at most one of two or three cases holds. -/
theorem opt_split2 (b : Prop) [Decidable b] (P : sProp 𝕄) : P ⊢ iprop(opt b P ∗ opt (¬ b) P) := by
  by_cases hb : b
  · rw [opt_pos hb, opt_neg (fun h => h hb)]; iintro H; isplitl [H]; · iexact H
    iempintro
  · rw [opt_neg hb, opt_pos hb]; iintro H; isplitl []; · iempintro
    iexact H

theorem opt_split3 (b₁ b₂ b₃ : Prop) [Decidable b₁] [Decidable b₂] [Decidable b₃] (h₁ : b₁ → ¬ b₂ ∧ ¬ b₃) (h₂ : b₂ → ¬ b₃) (P : sProp 𝕄) :
    P ⊢ iprop(opt b₁ P ∗ opt b₂ P ∗ opt b₃ P) := by
  by_cases hb : b₁
  · rw [opt_pos hb, opt_neg (h₁ hb).1, opt_neg (h₁ hb).2]
    iintro H; isplitl [H]; · iexact H
    isplitl [] <;> iempintro
  · by_cases hb' : b₂
    · rw [opt_neg hb, opt_pos hb', opt_neg (h₂ hb')]
      iintro H; isplitl []; · iempintro
      isplitl [H]; · iexact H
      iempintro
    · rw [opt_neg hb, opt_neg hb']
      iintro H; isplitl []; · iempintro
      isplitl []; · iempintro
      iapply (opt_drop (b := b₃) P); iexact H

/-! ## A wait that some devices make -/

theorem wait_if (c : Dev nD) (k : Fin 22) (n : ℕ) (b : Prop) [Decidable b] {cnd : Prop} [Decidable cnd] (hb : cnd ↔ b)
    {sm : DmaSem sig} (hsem : csem k = .dma sm) (h2 : 2 ≤ k.val) (hu : b → used c k = true)
    {s s' : Shape} {e e' : EltTy} {src : Memref sig .tc .vmem s' e'} {dst : Memref sig .tc .vmem s e} {hsrc : src.view.WordExact} {hdst : dst.view.WordExact}
    (hN : dst.view.dmaCredit = am k) (hlv : b → ∀ s : Fin 28, n ≤ s.val → ok s c = true → lvK c k < lvK (tg s c) (kk s))
    {α : Type} {e₂ : Prog (TpuEff nD τ sig (Elt F) Λ₀ .tc) α} {Q : α → sProp 𝕄} :
    iprop(recs m K ∗ levAts L lv ∗ opt b iprop(crd c k ∗ pos0 c k) ∗ Ow c n)
      ⊢ iprop(((Ow c n ∗ opt b iprop(pos1 c k ∗ payK m c k 0)) -∗ WP c e₂ Q)
          -∗ WP c (if h : cnd then .op (.waitDma2 sm src dst hsrc hdst) (fun _ => e₂) else e₂) Q) := by
  by_cases hc : cnd
  · rw [dif_pos hc, opt_pos (hb.1 hc), opt_pos (hb.1 hc)]
    iintro ⟨#HR, #Hlev, ⟨Hc, Hp⟩, HO⟩ Hk
    iapply (step_wait m K c k n hsem h2 (hu (hb.1 hc)) hN (hlv (hb.1 hc))) $$ [Hc Hp HO] [Hk]
    · iframe; isplitr <;> iassumption
    · iexact Hk
  · have hb' : ¬ b := fun h => hc (hb.2 h)
    rw [dif_neg hc, opt_neg hb', opt_neg hb']
    iintro ⟨-, -, -, HO⟩ Hk
    iapply Hk
    isplitl [HO]; · iexact HO
    iempintro

/-! ## A step of a running sum that some devices make -/

/-- A slot that gives `X` after the step `g`. -/
def ready (c : Dev nD) (M : Memref sig .tc .vmem S3x256x512 .f32) (j : Fin 3) (g : FVec F S256x512 .f32 → FVec F S256x512 .f32) (X : FVec F S256x512 .f32) :
    sProp 𝕄 := iprop(∃ v, ⌜g v = X⌝ ∗ own c (slot M j) fullShare v)

/-- The step's block of `x`, read through the staging buffer. -/
theorem step_load_x (c : Dev nD) (kx : Fin 4) {o : Fin 3 → ℕ} (ho : o = ![0, 512 * (c.val / 8) + 256 * (c.val / 4 % 2), 512 * kx.val])
    {inb : ∀ a, o a + S1x256x512.size a ≤ S1x1024x2048.size a}
    {hl : xM.view.LoadsAt (Rect.unit (s := S1x1024x2048) o S1x256x512.size inb).toLoadRect}
    {α : Type} {k : Vec F S1x256x512 .f32 → Prog (TpuEff nD τ sig (Elt F) Λ₀ .tc) α} {Q : α → sProp 𝕄} :
    own c xM fullShare (xstg m c)
      ⊢ iprop((own c xM fullShare (xstg m c) -∗ WP c (k (xblk m c kx)) Q)
          -∗ WP c (.op (.load xM (Rect.unit (s := S1x1024x2048) o S1x256x512.size inb).toLoadRect hl) k) Q) := by
  subst ho
  unfold own
  rw [owns_whole]
  iintro H Hk
  iapply (wp_load 𝒱₀ (c : Thread nD τ) none Set.univ (m := xM) (Finset.subset_univ _)) $$ H
  iintro H
  iapply Hk
  iexact H

/-- A step of a running sum and the copy that passes it on. -/
theorem send_block (c : Dev nD) (M : Memref sig .tc .vmem S3x256x512 .f32) (j : Fin 3) (kx : Fin 4) (s s' : Fin 28)
    (a a' : ℕ) (ha : s.val = a) (ha' : a + 1 = a') {d : Dev nD} (hd : tg s c = d) {k₀ k₁ : Fin 22} (hk₀ : kk s' = k₀) (hk₁ : kk s = k₁) {n : Dev nD} (hn : n = d)
    (pay : Vec F S1x256x512 .f32 → Vec F S1x256x512 .f32 → Vec F S1x256x512 .f32) (X : FVec F S256x512 .f32)
    {sS sD : DmaSem sig} (hsS : csem (kk s') = .dma sS) (hsD : csem (kk s) = .dma sD) (hok : ok s c = true) (htg : tg s' c = c) (hus : used c (kk s') = true)
    (hN : (slot M j).view.dmaCredit = am (kk s)) (ham : am (kk s') = am (kk s)) (h2 : 2 ≤ (kk s').val)
    (hpS : payK m c (kk s') 0 = own c (slot M j) fullShare.left X) (hpD : payK m d k₁ 0 = own d (slot M j) fullShare X)
    {ox o₁ o₂ o₃ : Fin 3 → ℕ} (hox : ox = ![0, 512 * (c.val / 8) + 256 * (c.val / 4 % 2), 512 * kx.val])
    (ho₁ : o₁ = ![j.val, 0, 0]) (ho₂ : o₂ = ![j.val, 0, 0]) (ho₃ : o₃ = ![j.val, 0, 0])
    {inbx : ∀ a, ox a + S1x256x512.size a ≤ S1x1024x2048.size a}
    {inb₁ : ∀ a, o₁ a + S1x256x512.size a ≤ S3x256x512.size a}
    {inb₂ : ∀ a, o₂ a + S1x256x512.size a ≤ S3x256x512.size a}
    {inb₃ : ∀ a, o₃ a + S1x256x512.size a ≤ S3x256x512.size a}
    {hlx : xM.view.LoadsAt (Rect.unit (s := S1x1024x2048) ox S1x256x512.size inbx).toLoadRect}
    {hl₁ : M.view.LoadsAt (Rect.unit (s := S3x256x512) o₁ S1x256x512.size inb₁).toLoadRect}
    {hl₂ : M.view.LoadsAt (Rect.unit (s := S3x256x512) o₂ S1x256x512.size inb₂).toLoadRect}
    {hx₃ : (M.access (Rect.unit (s := S3x256x512) o₃ S1x256x512.size inb₃)).Stores Finset.univ} {hm₃}
    {hsc : (slot M j).view.ref.isScScratch = false}
    {hsrc hdst : (slot M j).view.WordExact}
    {hsem : DmaTarget.Typed .vmem (.dma sD) (.remote (Dev.tc n : Thread nD τ) (slot M j) (.dma sS) hsc)}
    {α : Type} {e₂ : Prog (TpuEff nD τ sig (Elt F) Λ₀ .tc) α} {Q : α → sProp 𝕄} :
    iprop(recs m K ∗ own c xM fullShare (xstg m c)
        ∗ ready c M j (fun v => shapeCast S256x512 (pay (xblk m c kx) (shapeCast S1x256x512 v shapeCasts_S256x512_S1x256x512)) shapeCasts_S1x256x512_S256x512) X
        ∗ anyOf d (slot M j) ∗ Ow c a ∗ tok c s' ∗ tok c s)
      ⊢ iprop(((own c xM fullShare (xstg m c) ∗ (own c (slot M j) fullShare.right X ∗ crd c k₀) ∗ Ow c a') -∗ WP c e₂ Q)
          -∗ WP c (.op (.load xM (Rect.unit (s := S1x1024x2048) ox S1x256x512.size inbx).toLoadRect hlx) (fun v =>
                .op (.load M (Rect.unit (s := S3x256x512) o₁ S1x256x512.size inb₁).toLoadRect hl₁) (fun w =>
                  .op (.load M (Rect.unit (s := S3x256x512) o₂ S1x256x512.size inb₂).toLoadRect hl₂) (fun _ =>
                    .op (.store M (Rect.unit (s := S3x256x512) o₃ S1x256x512.size inb₃) (pay v w) Finset.univ hx₃ hm₃) (fun _ =>
                      .op (.enqueueDma (slot M j) (.remote (Dev.tc n : Thread nD τ) (slot M j) (.dma sS) hsc) (.dma sD) hsrc hdst hsem) (fun _ => e₂)))))) Q) := by
  unfold ready
  iintro ⟨#HR, Hx, ⟨%v, %hv, Hs⟩, Hd, HO, Ht', Ht⟩ Hk
  iapply (step_load_x m c kx hox) $$ Hx; iintro Hx
  iapply (step_load_slot c M j fullShare v ho₁) $$ Hs; iintro Hs
  iapply (step_load_slot c M j fullShare v ho₂) $$ Hs; iintro Hs
  iapply (step_store_slot c M j v _ ho₃) $$ Hs; iintro Hs
  dsimp only at hv
  rw [hv]
  ihave Hs2 := ((own_split c (slot M j) X).1) $$ Hs
  icases Hs2 with ⟨HsL, HsR⟩
  iapply (step_send m K c s s' a a' ha ha' hd hk₀ hk₁ hn (src := slot M j) (dst := slot M j) (q := fullShare.left) (X := X) hsS hsD hok htg hus hN ham h2 hpS hpD)
    $$ [HsL Hd HO Ht' Ht]
  · iframe; iassumption
  iintro ⟨Hc, HO⟩
  iapply Hk
  iframe

/-- The same on the devices that make the step: there it is one of the cases of a conditional. -/
theorem send_join (c : Dev nD) (s s' : Fin 28) (b : Prop) [Decidable b] {cnd : Prop} [Decidable cnd] (hb : cnd ↔ b)
    (a a' : ℕ) (ha : s.val = a) (ha' : a + 1 = a') (hok : ok s c = decide b) {A B C : sProp 𝕄}
    {α : Type} {e₁ : cnd → Prog (TpuEff nD τ sig (Elt F) Λ₀ .tc) α} {e₂ : Prog (TpuEff nD τ sig (Elt F) Λ₀ .tc) α} {Q : α → sProp 𝕄}
    (h₁ : ∀ h : cnd, b → iprop(recs m K ∗ own c xM fullShare (xstg m c) ∗ A ∗ B ∗ Ow c a ∗ tok c s' ∗ tok c s)
      ⊢ iprop(((own c xM fullShare (xstg m c) ∗ C ∗ Ow c a') -∗ WP c e₂ Q) -∗ WP c (e₁ h) Q)) :
    iprop(recs m K ∗ own c xM fullShare (xstg m c) ∗ opt b A ∗ opt b B ∗ Ow c a ∗ tok c s' ∗ tok c s)
      ⊢ iprop(((own c xM fullShare (xstg m c) ∗ opt b C ∗ Ow c a') -∗ WP c e₂ Q) -∗ WP c (if h : cnd then e₁ h else e₂) Q) := by
  by_cases hc : cnd
  · rw [dif_pos hc, opt_pos (hb.1 hc), opt_pos (hb.1 hc), opt_pos (hb.1 hc)]; exact h₁ hc (hb.1 hc)
  · have hb' : ¬ b := fun h => hc (hb.2 h)
    rw [dif_neg hc]; simp only [opt_neg hb']
    subst ha ha'
    iintro ⟨-, Hx, -, -, HO, -, -⟩ Hk
    iapply Hk
    ihave HO' := (Ow_skip c s (by rw [hok]; exact decide_eq_false hb')) $$ HO
    isplitl [Hx]; · iexact Hx
    isplitr; · iempintro
    iexact HO'

end Cert.KernelIdeal.ReduceScatter
-- ==== Proof.KernelIdeal.PhaseZ.lean ====
/-
# The sums along `z`

The first four parts of the program: the entry barrier, the six steps of the running sums, the waits for the two sums a
device finishes, and the reads of its own block and of the sum that runs towards larger `z`.
-/
module

public import proofs.«01_k».proof.Proof.KernelIdeal.Blocks

@[expose] public section

set_option backward.proofsInPublic true

noncomputable section

namespace Cert.KernelIdeal.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 22 → ℕ)

/-! ## The program's parts, on its buffers -/

abbrev part1 :=
  k0_part1 (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0
abbrev part2 (d0 : Dev nD) (v2 v5 v8 v11 v13 v16 v17 v18 : BitVec 32) (v19 : Sems sig S_) :=
  k0_part2 (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0 d0 v2 v5 v8 v11 v13 v16 v17 v18 v19
abbrev part3 (d0 : Dev nD) (v2 v5 v8 v11 v13 v16 : BitVec 32) (v60 : BitVec 1) (v40 : BitVec 32) :=
  k0_part3 (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0 d0 v2 v5 v8 v11 v13 v16 v60 v40
abbrev part4 (d0 : Dev nD) (v2 v5 v8 v11 v93 : BitVec 32) :=
  k0_part4 (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0 d0 v2 v5 v8 v11 v93
abbrev part5 (d0 : Dev nD) (v2 v5 v8 v11 v17 v18 : BitVec 32) (v123 : FVec F S256x512 .f32) (v124 : BitVec 1) :=
  k0_part5 (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0 d0 v2 v5 v8 v11 v17 v18 v123 v124
abbrev part6 (v2 v5 v8 v18 : BitVec 32) (v160 : BitVec 1) :=
  k0_part6 (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0 v2 v5 v8 v18 v160
abbrev part7 (d0 : Dev nD) (v2 v5 v8 v17 : BitVec 32) :=
  k0_part7 (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0 d0 v2 v5 v8 v17
abbrev part8 (d0 : Dev nD) (v2 v5 v8 v222 : BitVec 32) :=
  k0_part8 (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0 d0 v2 v5 v8 v222
abbrev part9 (d0 : Dev nD) (v2 v5 v16 v240 : BitVec 32) :=
  k0_part9 (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0 d0 v2 v5 v16 v240

/-! ## Slots ready for a step -/

theorem readyR (c : Dev nD) (j : Fin 3) :
    iprop(opt (zc c = 0) (anyOf c (slot rM j)) ∗ opt (1 ≤ zc c ∧ zc c ≤ j.val) (own c (slot rM j) fullShare (rsum m (zl c) j)))
      ⊢ opt (zc c ≤ j.val) (ready c rM j (addR c (xblk m c j.succ)) (rsum m c j)) := by
  rcases Nat.eq_zero_or_pos (zc c) with h | h
  · rw [opt_pos h, opt_neg (by omega), opt_pos (by omega)]
    unfold anyOf ready
    iintro ⟨⟨%v, H⟩, -⟩
    iexists v
    isplitr; · ipureintro; exact rsum_first m c h j v
    iexact H
  · by_cases h' : zc c ≤ j.val
    · rw [opt_neg (by omega), opt_pos ⟨h, h'⟩, opt_pos h']
      unfold ready
      iintro ⟨-, H⟩
      iexists _
      isplitr; · ipureintro; exact rsum_step m c h j
      iexact H
    · rw [opt_neg h']; iintro -; iempintro

theorem readyL (c : Dev nD) (j : Fin 3) :
    iprop(opt (zc c = 3) (anyOf c (slot lM j)) ∗ opt (j.val < zc c ∧ zc c ≤ 2) (own c (slot lM j) fullShare (lsum m (zr c) j)))
      ⊢ opt (j.val < zc c) (ready c lM j (addL c (xblk m c j.castSucc)) (lsum m c j)) := by
  have hz := zc_lt c
  have hj := j.isLt
  by_cases h : zc c = 3
  · rw [opt_pos h, opt_neg (by omega), opt_pos (by omega)]
    unfold anyOf ready
    iintro ⟨⟨%v, H⟩, -⟩
    iexists v
    isplitr; · ipureintro; exact lsum_first m c h j v
    iexact H
  · by_cases h' : j.val < zc c
    · rw [opt_neg h, opt_pos ⟨h', by omega⟩, opt_pos h']
      unfold ready
      iintro ⟨-, H⟩
      iexists _
      isplitr; · ipureintro; exact lsum_step m c (by omega) j
      iexact H
    · rw [opt_neg h']; iintro -; iempintro

/-! ## What a step hands to the neighbour -/

theorem sent5 (c : Dev nD) : payK m (zr c) 5 0 = own (zr c) (slot rM 0) fullShare (rsum m c 0) :=
  congrArg (fun d => own (zr c) (slot rM 0) fullShare (rsum m d 0)) (zl_zr c)
theorem sent6 (c : Dev nD) : payK m (zr c) 6 0 = own (zr c) (slot rM 1) fullShare (rsum m c 1) :=
  congrArg (fun d => own (zr c) (slot rM 1) fullShare (rsum m d 1)) (zl_zr c)
theorem sent7 (c : Dev nD) : payK m (zr c) 7 0 = own (zr c) (slot rM 2) fullShare (rsum m c 2) :=
  congrArg (fun d => own (zr c) (slot rM 2) fullShare (rsum m d 2)) (zl_zr c)
theorem sent11 (c : Dev nD) : payK m (zl c) 11 0 = own (zl c) (slot lM 0) fullShare (lsum m c 0) :=
  congrArg (fun d => own (zl c) (slot lM 0) fullShare (lsum m d 0)) (zr_zl c)
theorem sent12 (c : Dev nD) : payK m (zl c) 12 0 = own (zl c) (slot lM 1) fullShare (lsum m c 1) :=
  congrArg (fun d => own (zl c) (slot lM 1) fullShare (lsum m d 1)) (zr_zl c)
theorem sent13 (c : Dev nD) : payK m (zl c) 13 0 = own (zl c) (slot lM 2) fullShare (lsum m c 2) :=
  congrArg (fun d => own (zl c) (slot lM 2) fullShare (lsum m d 2)) (zr_zl c)

theorem used_r (c : Dev nD) (j : Fin 3) : zc c ≤ j.val → used c ⟨2 + j.val, by omega⟩ = true := by revert c j; decide +kernel
theorem used_l (c : Dev nD) (j : Fin 3) : j.val < zc c → used c ⟨8 + j.val, by omega⟩ = true := by revert c j; decide +kernel

/-- What the entry barrier hands a device: slots of its neighbours in `z`, and two buffers of each of its neighbours in `x` and `y`. -/
theorem bar_pays (c : Dev nD) :
    iprop(payK m c 0 0 ∗ payK m c 0 1 ∗ payK m c 0 2 ∗ payK m c 0 3)
      = iprop((opt (zc c ≤ 0) (anyOf (zr c) (slot rM 0)) ∗ opt (zc c ≤ 1) (anyOf (zr c) (slot rM 1)) ∗ opt (zc c ≤ 2) (anyOf (zr c) (slot rM 2)))
        ∗ (opt (0 < zc c) (anyOf (zl c) (slot lM 0)) ∗ opt (1 < zc c) (anyOf (zl c) (slot lM 1)) ∗ opt (2 < zc c) (anyOf (zl c) (slot lM 2)))
        ∗ barPay c 2 ∗ barPay c 3) := rfl

/-! ## The first part: two signals -/

theorem part1_spec (c : Dev nD) {Kt : _ → sProp 𝕄} :
    iprop(recs m K ∗ Ow c 0 ∗ tok c 0 ∗ tok c 1 ∗ barPay (zl c) 0 ∗ barPay (zr c) 1
        ∗ (∀ v2 v5 v8 v11 v13 v16 v17 v18 v19, ⌜v8 = w8 c ∧ csem 0 = .reg v19.sem⌝ -∗ Ow c 2 -∗ Kt ⟨c, v2, v5, v8, v11, v13, v16, v17, v18, v19⟩))
      ⊢ WP c (part1 (F := F)) Kt := by
  unfold part1
  rw [k0_part1_eq_skeleton]; unfold k0_part1_skel
  simp only [semSignalWord, Prog.lift, Prog.bind_op, Prog.bind_ret, Prog.pure_eq_ret, wp_deviceId]
  iintro ⟨#HR, HO, Ht0, Ht1, Hp0, Hp1, Hk⟩
  iapply (step_signal m K c 0 0 1 rfl rfl (dev1_eq c) (P := barPay (zl c) 0) rfl rfl rfl rfl) $$ [HO Ht0 Hp0]
  · iframe; iassumption
  iintro HO
  iapply (step_signal m K c 1 1 2 rfl rfl (dev2_eq c) (P := barPay (zr c) 1) rfl rfl rfl rfl) $$ [HO Ht1 Hp1]
  · iframe; iassumption
  iintro HO
  iapply step_ret
  iapply Hk $$ [] HO
  ipureintro; exact ⟨rfl, rfl⟩

attribute [local irreducible] w8 k0_cond2 k0_cond4 k0_cond6 k0_cond8 k0_cond10 k0_cond12 k0_off1 k0_off2 k0_off3 k0_off4 k0_off5 k0_off6 k0_off7 k0_off8 k0_off9 k0_off10 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18

/-! ## The second part: the rest of the entry barrier, and the first step of each sum -/

theorem part2_spec (c : Dev nD) (v2 v5 v11 v13 v16 v17 v18 : BitVec 32) (v19 : Sems sig S_) (h19 : csem 0 = .reg v19.sem) {Kt : _ → sProp 𝕄} :
    iprop(recs m K ∗ levAts L lv ∗ Ow c 2 ∗ tok c 2 ∗ tok c 3 ∗ barPay (xn c) 2 ∗ barPay (yn c) 3 ∗ crd c 0 ∗ pos0 c 0
        ∗ own c xM fullShare (xstg m c)
        ∗ opt (1 ≤ zc c ∧ zc c ≤ 2) iprop(crd c 7 ∗ pos0 c 7) ∗ opt (zc c = 0) (anyOf c (slot rM 2)) ∗ tok c 20 ∗ tok c 4
        ∗ opt (0 < zc c ∧ zc c ≤ 2) iprop(crd c 11 ∗ pos0 c 11) ∗ opt (zc c = 3) (anyOf c (slot lM 0)) ∗ tok c 21 ∗ tok c 5
        ∗ ((Ow c 6 ∗ pos1 c 0 ∗ barPay c 2 ∗ barPay c 3 ∗ own c xM fullShare (xstg m c)
            ∗ opt (zc c ≤ 0) (anyOf (zr c) (slot rM 0)) ∗ opt (zc c ≤ 1) (anyOf (zr c) (slot rM 1))
            ∗ opt (1 < zc c) (anyOf (zl c) (slot lM 1)) ∗ opt (2 < zc c) (anyOf (zl c) (slot lM 2))
            ∗ opt (1 ≤ zc c ∧ zc c ≤ 2) (pos1 c 7) ∗ opt (zc c ≤ 2) iprop(own c (slot rM 2) fullShare.right (rsum m c 2) ∗ crd c 4)
            ∗ opt (0 < zc c ∧ zc c ≤ 2) (pos1 c 11) ∗ opt (0 < zc c) iprop(own c (slot lM 0) fullShare.right (lsum m c 0) ∗ crd c 8))
          -∗ Kt ⟨Scalar.cmpi .sge (w8 c) 1#32, 2#32⟩))
      ⊢ WP c (part2 (F := F) c v2 v5 (w8 c) v11 v13 v16 v17 v18 v19) Kt := by
  unfold part2
  rw [k0_part2_eq_skeleton]; unfold k0_part2_skel
  simp only [semSignalWord, semWaitWord, Prog.lift, Prog.bind_op, Prog.bind_ret, Prog.pure_eq_ret, wp_deviceId]
  iintro ⟨#HR, #Hlev, HO, Ht2, Ht3, Hp2, Hp3, Hc0, Hat0, Hx, Hw7, Hs2, Hts2, Htr2, Hw11, Hl0, Htl0, Htm0, Hk⟩
  iapply (step_signal m K c 2 2 3 rfl rfl (dev3_eq c) (P := barPay (xn c) 2) rfl h19 rfl rfl) $$ [HO Ht2 Hp2]
  · iframe; iassumption
  iintro HO
  iapply (step_signal m K c 3 3 4 rfl rfl (dev4_eq c) (P := barPay (yn c) 3) rfl h19 rfl rfl) $$ [HO Ht3 Hp3]
  · iframe; iassumption
  iintro HO
  iapply (step_barrier m K c 0 4 h19 (by decide) (by revert c; decide +kernel)) $$ [HO Hc0 Hat0]
  · iframe; isplitr <;> iassumption
  iintro ⟨HO, Hat0, Hb⟩
  ihave Hb := (Entails.of_eq (bar_pays m c)) $$ Hb
  icases Hb with ⟨⟨Hr0, Hr1, Hr2⟩, ⟨Hm0, Hm1, Hm2⟩, Hb2, Hb3⟩
  iapply (wait_if m K c (dst := slot rM 2) 7 4 (1 ≤ zc c ∧ zc c ≤ 2) (by revert c; decide +kernel) rfl (by decide) (by revert c; decide +kernel) rfl (by revert c; decide +kernel)) $$ [HO Hw7]
  · iframe; isplitr <;> iassumption
  iintro ⟨HO, Hw⟩
  ihave Hw := (opt_unsep _ _) $$ Hw
  icases Hw with ⟨Hp7, Hin⟩
  ihave Hrdy := (readyR m c 2) $$ [Hs2 Hin]
  · isplitl [Hs2]; · iexact Hs2
    iexact Hin
  iapply (send_join m K c 4 20 (zc c ≤ 2) (cond2_iff c) 4 5 rfl rfl (ok_4 c) (A := ready c rM 2 (addR c (xblk m c 3)) (rsum m c 2)) (B := anyOf (zr c) (slot rM 2))
    (C := iprop(own c (slot rM 2) fullShare.right (rsum m c 2) ∗ crd c 4)) (fun h hb => by
      exact send_block m K c rM 2 3 4 20 4 5 rfl rfl rfl rfl rfl (dev5_eq c h) (k0_pay1 (w8 c)) (rsum m c 2) rfl rfl (by rw [ok_4]; exact decide_eq_true hb) rfl (used_r c 2 hb) rfl rfl (by decide) rfl (sent7 m c) (k0_off1_eq c) rfl rfl rfl)) $$ [Hx Hrdy Hr2 HO Hts2 Htr2]
  · isplitr; · iassumption
    isplitl [Hx]; · iexact Hx
    isplitl [Hrdy]; · iexact Hrdy
    iframe
  iintro ⟨Hx, Hs2, HO⟩
  iapply (wait_if m K c (dst := slot lM 0) 11 5 (0 < zc c ∧ zc c ≤ 2) (by revert c; decide +kernel) rfl (by decide) (by revert c; decide +kernel) rfl (by revert c; decide +kernel)) $$ [HO Hw11]
  · iframe; isplitr <;> iassumption
  iintro ⟨HO, Hw⟩
  ihave Hw := (opt_unsep _ _) $$ Hw
  icases Hw with ⟨Hp11, Hin⟩
  ihave Hrdy := (readyL m c 0) $$ [Hl0 Hin]
  · isplitl [Hl0]; · iexact Hl0
    iexact Hin
  iapply (send_join m K c 5 21 (0 < zc c) (cond4_iff c) 5 6 rfl rfl (ok_5 c) (A := ready c lM 0 (addL c (xblk m c 0)) (lsum m c 0)) (B := anyOf (zl c) (slot lM 0))
    (C := iprop(own c (slot lM 0) fullShare.right (lsum m c 0) ∗ crd c 8)) (fun h hb => by
      exact send_block m K c lM 0 0 5 21 5 6 rfl rfl rfl rfl rfl (dev6_eq c h) (k0_pay2 (w8 c)) (lsum m c 0) rfl rfl (by rw [ok_5]; exact decide_eq_true hb) rfl (used_l c 0 hb) rfl rfl (by decide) rfl (sent11 m c) (k0_off2_eq c) rfl rfl rfl)) $$ [Hx Hrdy Hm0 HO Htl0 Htm0]
  · isplitr; · iassumption
    isplitl [Hx]; · iexact Hx
    isplitl [Hrdy]; · iexact Hrdy
    iframe
  iintro ⟨Hx, Hl0, HO⟩
  iapply step_ret
  iapply Hk
  iframe

/-! ## The third part: the other steps -/

theorem part3_spec (c : Dev nD) (v2 v5 v11 v13 v16 : BitVec 32) {Kt : _ → sProp 𝕄} :
    iprop(recs m K ∗ levAts L lv ∗ Ow c 6 ∗ own c xM fullShare (xstg m c)
        ∗ opt (1 ≤ zc c ∧ zc c ≤ 1) iprop(crd c 6 ∗ pos0 c 6) ∗ opt (zc c = 0) (anyOf c (slot rM 1)) ∗ opt (zc c ≤ 1) (anyOf (zr c) (slot rM 1)) ∗ tok c 19 ∗ tok c 6
        ∗ opt (1 < zc c ∧ zc c ≤ 2) iprop(crd c 12 ∗ pos0 c 12) ∗ opt (zc c = 3) (anyOf c (slot lM 1)) ∗ opt (1 < zc c) (anyOf (zl c) (slot lM 1)) ∗ tok c 22 ∗ tok c 7
        ∗ opt (1 ≤ zc c ∧ zc c ≤ 0) iprop(crd c 5 ∗ pos0 c 5) ∗ opt (zc c = 0) (anyOf c (slot rM 0)) ∗ opt (zc c ≤ 0) (anyOf (zr c) (slot rM 0)) ∗ tok c 18 ∗ tok c 8
        ∗ opt (2 < zc c ∧ zc c ≤ 2) iprop(crd c 13 ∗ pos0 c 13) ∗ opt (zc c = 3) (anyOf c (slot lM 2)) ∗ opt (2 < zc c) (anyOf (zl c) (slot lM 2)) ∗ tok c 23 ∗ tok c 9
        ∗ ((Ow c 10 ∗ own c xM fullShare (xstg m c)
            ∗ opt (1 ≤ zc c ∧ zc c ≤ 1) (pos1 c 6) ∗ opt (zc c ≤ 1) iprop(own c (slot rM 1) fullShare.right (rsum m c 1) ∗ crd c 3)
            ∗ opt (1 < zc c ∧ zc c ≤ 2) (pos1 c 12) ∗ opt (1 < zc c) iprop(own c (slot lM 1) fullShare.right (lsum m c 1) ∗ crd c 9)
            ∗ opt (1 ≤ zc c ∧ zc c ≤ 0) (pos1 c 5) ∗ opt (zc c ≤ 0) iprop(own c (slot rM 0) fullShare.right (rsum m c 0) ∗ crd c 2)
            ∗ opt (2 < zc c ∧ zc c ≤ 2) (pos1 c 13) ∗ opt (2 < zc c) iprop(own c (slot lM 2) fullShare.right (lsum m c 2) ∗ crd c 10))
          -∗ Kt (Scalar.extui (Scalar.cmpi .eq (w8 c) 1#32))))
      ⊢ WP c (part3 (F := F) c v2 v5 (w8 c) v11 v13 v16 (Scalar.cmpi .sge (w8 c) 1#32) 2#32) Kt := by
  unfold part3
  rw [k0_part3_eq_skeleton]; unfold k0_part3_skel
  simp only [semSignalWord, semWaitWord, Prog.lift, Prog.bind_op, Prog.bind_ret, Prog.pure_eq_ret, wp_deviceId]
  iintro ⟨#HR, #Hlev, HO, Hx, Hw6, Hs1, Hd1, Hts1, Htr1, Hw12, Hl1, He1, Htl1, Htm1, Hw5, Hs0, Hd0, Hts0, Htr0, Hw13, Hl2, He2, Htl2, Htm2, Hk⟩
  iapply (wait_if m K c (dst := slot rM 1) 6 6 (1 ≤ zc c ∧ zc c ≤ 1) (by revert c; decide +kernel) rfl (by decide) (by revert c; decide +kernel) rfl (by revert c; decide +kernel)) $$ [HO Hw6]
  · iframe; isplitr <;> iassumption
  iintro ⟨HO, Hw⟩
  ihave Hw := (opt_unsep _ _) $$ Hw
  icases Hw with ⟨Hp6, Hin⟩
  ihave Hrdy := (readyR m c 1) $$ [Hs1 Hin]
  · isplitl [Hs1]; · iexact Hs1
    iexact Hin
  iapply (send_join m K c 6 19 (zc c ≤ 1) (cond6_iff c) 6 7 rfl rfl (ok_6 c) (A := ready c rM 1 (addR c (xblk m c 2)) (rsum m c 1)) (B := anyOf (zr c) (slot rM 1))
    (C := iprop(own c (slot rM 1) fullShare.right (rsum m c 1) ∗ crd c 3)) (fun h hb => by
      exact send_block m K c rM 1 2 6 19 6 7 rfl rfl rfl rfl rfl (dev7_eq c h) (k0_pay3 (w8 c)) (rsum m c 1) rfl rfl (by rw [ok_6]; exact decide_eq_true hb) rfl (used_r c 1 hb) rfl rfl (by decide) rfl (sent6 m c) (k0_off3_eq c) rfl rfl rfl)) $$ [Hx Hrdy Hd1 HO Hts1 Htr1]
  · isplitr; · iassumption
    isplitl [Hx]; · iexact Hx
    isplitl [Hrdy]; · iexact Hrdy
    iframe
  iintro ⟨Hx, Hs1, HO⟩
  iapply (wait_if m K c (dst := slot lM 1) 12 7 (1 < zc c ∧ zc c ≤ 2) (by revert c; decide +kernel) rfl (by decide) (by revert c; decide +kernel) rfl (by revert c; decide +kernel)) $$ [HO Hw12]
  · iframe; isplitr <;> iassumption
  iintro ⟨HO, Hw⟩
  ihave Hw := (opt_unsep _ _) $$ Hw
  icases Hw with ⟨Hp12, Hin⟩
  ihave Hrdy := (readyL m c 1) $$ [Hl1 Hin]
  · isplitl [Hl1]; · iexact Hl1
    iexact Hin
  iapply (send_join m K c 7 22 (1 < zc c) (cond8_iff c) 7 8 rfl rfl (ok_7 c) (A := ready c lM 1 (addL c (xblk m c 1)) (lsum m c 1)) (B := anyOf (zl c) (slot lM 1))
    (C := iprop(own c (slot lM 1) fullShare.right (lsum m c 1) ∗ crd c 9)) (fun h hb => by
      exact send_block m K c lM 1 1 7 22 7 8 rfl rfl rfl rfl rfl (dev8_eq c h) (k0_pay4 (w8 c)) (lsum m c 1) rfl rfl (by rw [ok_7]; exact decide_eq_true hb) rfl (used_l c 1 hb) rfl rfl (by decide) rfl (sent12 m c) (k0_off4_eq c) rfl rfl rfl)) $$ [Hx Hrdy He1 HO Htl1 Htm1]
  · isplitr; · iassumption
    isplitl [Hx]; · iexact Hx
    isplitl [Hrdy]; · iexact Hrdy
    iframe
  iintro ⟨Hx, Hl1, HO⟩
  iapply (wait_if m K c (dst := slot rM 0) 5 8 (1 ≤ zc c ∧ zc c ≤ 0) (by revert c; decide +kernel) rfl (by decide) (by revert c; decide +kernel) rfl (by revert c; decide +kernel)) $$ [HO Hw5]
  · iframe; isplitr <;> iassumption
  iintro ⟨HO, Hw⟩
  ihave Hw := (opt_unsep _ _) $$ Hw
  icases Hw with ⟨Hp5, Hin⟩
  ihave Hrdy := (readyR m c 0) $$ [Hs0 Hin]
  · isplitl [Hs0]; · iexact Hs0
    iexact Hin
  iapply (send_join m K c 8 18 (zc c ≤ 0) (cond10_iff c) 8 9 rfl rfl (ok_8 c) (A := ready c rM 0 (addR c (xblk m c 1)) (rsum m c 0)) (B := anyOf (zr c) (slot rM 0))
    (C := iprop(own c (slot rM 0) fullShare.right (rsum m c 0) ∗ crd c 2)) (fun h hb => by
      exact send_block m K c rM 0 1 8 18 8 9 rfl rfl rfl rfl rfl (dev9_eq c h) (k0_pay5 (w8 c)) (rsum m c 0) rfl rfl (by rw [ok_8]; exact decide_eq_true hb) rfl (used_r c 0 hb) rfl rfl (by decide) rfl (sent5 m c) (k0_off5_eq c) rfl rfl rfl)) $$ [Hx Hrdy Hd0 HO Hts0 Htr0]
  · isplitr; · iassumption
    isplitl [Hx]; · iexact Hx
    isplitl [Hrdy]; · iexact Hrdy
    iframe
  iintro ⟨Hx, Hs0, HO⟩
  iapply (wait_if m K c (dst := slot lM 2) 13 9 (2 < zc c ∧ zc c ≤ 2) (by revert c; decide +kernel) rfl (by decide) (by revert c; decide +kernel) rfl (by revert c; decide +kernel)) $$ [HO Hw13]
  · iframe; isplitr <;> iassumption
  iintro ⟨HO, Hw⟩
  ihave Hw := (opt_unsep _ _) $$ Hw
  icases Hw with ⟨Hp13, Hin⟩
  ihave Hrdy := (readyL m c 2) $$ [Hl2 Hin]
  · isplitl [Hl2]; · iexact Hl2
    iexact Hin
  iapply (send_join m K c 9 23 (2 < zc c) (cond12_iff c) 9 10 rfl rfl (ok_9 c) (A := ready c lM 2 (addL c (xblk m c 2)) (lsum m c 2)) (B := anyOf (zl c) (slot lM 2))
    (C := iprop(own c (slot lM 2) fullShare.right (lsum m c 2) ∗ crd c 10)) (fun h hb => by
      exact send_block m K c lM 2 2 9 23 9 10 rfl rfl rfl rfl rfl (dev10_eq c h) (k0_pay6 (w8 c)) (lsum m c 2) rfl rfl (by rw [ok_9]; exact decide_eq_true hb) rfl (used_l c 2 hb) rfl rfl (by decide) rfl (sent13 m c) (k0_off6_eq c) rfl rfl rfl)) $$ [Hx Hrdy He2 HO Htl2 Htm2]
  · isplitr; · iassumption
    isplitl [Hx]; · iexact Hx
    isplitl [Hrdy]; · iexact Hrdy
    iframe
  iintro ⟨Hx, Hl2, HO⟩
  iapply step_ret
  iapply Hk
  iframe

/-! ## The sums a device finishes -/

/-- Slot `j` of the sums towards larger `z` when all copies of them are over: sent, received for the last time, or neither. -/
def RA (c : Dev nD) (j : Fin 3) : sProp 𝕄 :=
  iprop(opt (zc c ≤ j.val) (own c (slot rM j) fullShare.right (rsum m c j)) ∗ opt (zc c = j.val + 1) (own c (slot rM j) fullShare (rsum m (zl c) j))
    ∗ opt (j.val + 1 < zc c) (anyOf c (slot rM j)))
def LA (c : Dev nD) (j : Fin 3) : sProp 𝕄 :=
  iprop(opt (j.val < zc c) (own c (slot lM j) fullShare.right (lsum m c j)) ∗ opt (zc c = j.val) (own c (slot lM j) fullShare (lsum m (zr c) j))
    ∗ opt (zc c < j.val) (anyOf c (slot lM j)))

/-- The slot the final sum reads, lent by itself. -/
theorem RA_lend (c : Dev nD) : RA m c (fr c) ⊢ iprop(∃ q, own c (slot rM (fr c)) q (rin m c) ∗ (own c (slot rM (fr c)) q (rin m c) -∗ RA m c (fr c))) := by
  unfold RA rin
  by_cases h : zc c = 0
  · have hf : (fr c).val = 0 := by unfold fr; simp [h]
    rw [if_pos h, opt_pos (by omega), opt_neg (by omega), opt_neg (by omega)]
    iintro ⟨H, -, -⟩
    iexists fullShare.right
    isplitl [H]; · iexact H
    iintro H
    isplitl [H]; · iexact H
    isplitl [] <;> iempintro
  · have hf : (fr c).val + 1 = zc c := by unfold fr; show zc c - 1 + 1 = zc c; omega
    rw [if_neg h, opt_neg (by omega), opt_pos (by omega), opt_neg (by omega)]
    iintro ⟨-, H, -⟩
    iexists fullShare
    isplitl [H]; · iexact H
    iintro H
    isplitl []; · iempintro
    isplitl [H]; · iexact H
    iempintro
theorem LA_lend (c : Dev nD) : LA m c (fl c) ⊢ iprop(∃ q, own c (slot lM (fl c)) q (lin m c) ∗ (own c (slot lM (fl c)) q (lin m c) -∗ LA m c (fl c))) := by
  have hz := zc_lt c
  unfold LA lin
  by_cases h : zc c = 3
  · have hf : (fl c).val = 2 := by unfold fl; simp [h]
    rw [if_pos h, opt_pos (by omega), opt_neg (by omega), opt_neg (by omega)]
    iintro ⟨H, -, -⟩
    iexists fullShare.right
    isplitl [H]; · iexact H
    iintro H
    isplitl [H]; · iexact H
    isplitl [] <;> iempintro
  · have hf : (fl c).val = zc c := by unfold fl; show min (zc c) 2 = zc c; omega
    rw [if_neg h, opt_neg (by omega), opt_pos (by omega), opt_neg (by omega)]
    iintro ⟨-, H, -⟩
    iexists fullShare
    isplitl [H]; · iexact H
    iintro H
    isplitl []; · iempintro
    isplitl [H]; · iexact H
    iempintro

/-- One of three, lent and put back. -/
theorem lend_of_three (A : Fin 3 → sProp 𝕄) (j : Fin 3) : iprop(A 0 ∗ A 1 ∗ A 2) ⊢ iprop(A j ∗ (A j -∗ A 0 ∗ A 1 ∗ A 2)) := by
  obtain rfl | rfl | rfl : j = 0 ∨ j = 1 ∨ j = 2 := by revert j; decide
  · iintro ⟨H0, H1, H2⟩
    isplitl [H0]; · iexact H0
    iintro H0; iframe
  · iintro ⟨H0, H1, H2⟩
    isplitl [H1]; · iexact H1
    iintro H1; iframe
  · iintro ⟨H0, H1, H2⟩
    isplitl [H2]; · iexact H2
    iintro H2; iframe

/-- All slots of the sums towards larger `z`. -/
abbrev RS (c : Dev nD) : sProp 𝕄 := iprop(RA m c 0 ∗ RA m c 1 ∗ RA m c 2)
abbrev LS (c : Dev nD) : sProp 𝕄 := iprop(LA m c 0 ∗ LA m c 1 ∗ LA m c 2)

theorem RS_lend (c : Dev nD) : RS m c ⊢ iprop(∃ q, own c (slot rM (fr c)) q (rin m c) ∗ (own c (slot rM (fr c)) q (rin m c) -∗ RS m c)) := by
  iintro H
  ihave H' := (lend_of_three (RA m c) (fr c)) $$ H
  icases H' with ⟨H, Hb⟩
  ihave H' := (RA_lend m c) $$ H
  icases H' with ⟨%q, H, Hb'⟩
  iexists q
  isplitl [H]; · iexact H
  iintro H
  iapply Hb; iapply Hb' $$ H
theorem LS_lend (c : Dev nD) : LS m c ⊢ iprop(∃ q, own c (slot lM (fl c)) q (lin m c) ∗ (own c (slot lM (fl c)) q (lin m c) -∗ LS m c)) := by
  iintro H
  ihave H' := (lend_of_three (LA m c) (fl c)) $$ H
  icases H' with ⟨H, Hb⟩
  ihave H' := (LA_lend m c) $$ H
  icases H' with ⟨%q, H, Hb'⟩
  iexists q
  isplitl [H]; · iexact H
  iintro H
  iapply Hb; iapply Hb' $$ H

/-! ## The fourth part: the waits for the sums a device finishes, and two of the three values the final sum is of -/

theorem part4_spec (c : Dev nD) (v2 v5 v11 : BitVec 32) {Kt : _ → sProp 𝕄} :
    iprop(recs m K ∗ levAts L lv ∗ Ow c 10 ∗ own c xM fullShare (xstg m c)
        ∗ opt (zc c = 1) iprop(crd c 5 ∗ pos0 c 5) ∗ opt (zc c = 2) iprop(crd c 6 ∗ pos0 c 6) ∗ opt (zc c = 3) iprop(crd c 7 ∗ pos0 c 7)
        ∗ opt (zc c = 0) iprop(crd c 11 ∗ pos0 c 11) ∗ opt (zc c = 1) iprop(crd c 12 ∗ pos0 c 12) ∗ opt (zc c = 2) iprop(crd c 13 ∗ pos0 c 13)
        ∗ opt (zc c ≤ 0) (own c (slot rM 0) fullShare.right (rsum m c 0)) ∗ opt (1 < zc c) (anyOf c (slot rM 0))
        ∗ opt (zc c ≤ 1) (own c (slot rM 1) fullShare.right (rsum m c 1)) ∗ opt (2 < zc c) (anyOf c (slot rM 1))
        ∗ opt (zc c ≤ 2) (own c (slot rM 2) fullShare.right (rsum m c 2)) ∗ opt (3 < zc c) (anyOf c (slot rM 2))
        ∗ opt (0 < zc c) (own c (slot lM 0) fullShare.right (lsum m c 0)) ∗ opt (zc c < 0) (anyOf c (slot lM 0))
        ∗ opt (1 < zc c) (own c (slot lM 1) fullShare.right (lsum m c 1)) ∗ opt (zc c < 1) (anyOf c (slot lM 1))
        ∗ opt (2 < zc c) (own c (slot lM 2) fullShare.right (lsum m c 2)) ∗ opt (zc c < 2) (anyOf c (slot lM 2))
        ∗ ((Ow c 10 ∗ own c xM fullShare (xstg m c) ∗ RS m c ∗ LS m c
            ∗ opt (zc c = 1) (pos1 c 5) ∗ opt (zc c = 2) (pos1 c 6) ∗ opt (zc c = 3) (pos1 c 7)
            ∗ opt (zc c = 0) (pos1 c 11) ∗ opt (zc c = 1) (pos1 c 12) ∗ opt (zc c = 2) (pos1 c 13))
          -∗ Kt ⟨k0_pay7 (w8 c) (xblk m c (zk c)) (shapeCast S1x256x512 (rin m c) shapeCasts_S256x512_S1x256x512), Scalar.cmpi .slt (w8 c) 3#32⟩))
      ⊢ WP c (part4 (F := F) c v2 v5 (w8 c) v11 (Scalar.extui (Scalar.cmpi .eq (w8 c) 1#32))) Kt := by
  unfold part4
  rw [k0_part4_eq_skeleton]; unfold k0_part4_skel
  simp only [semSignalWord, semWaitWord, Prog.lift, Prog.bind_op, Prog.bind_ret, Prog.pure_eq_ret, wp_deviceId]
  iintro ⟨#HR, #Hlev, HO, Hx, Hw5, Hw6, Hw7, Hw11, Hw12, Hw13, HrA0, HrB0, HrA1, HrB1, HrA2, HrB2, HlA0, HlB0, HlA1, HlB1, HlA2, HlB2, Hk⟩
  iapply (wait_if m K c (dst := slot rM 0) 5 10 (zc c = 1) (by revert c; decide +kernel) rfl (by decide) (by revert c; decide +kernel) rfl (by revert c; decide +kernel)) $$ [HO Hw5]
  · iframe; isplitr <;> iassumption
  iintro ⟨HO, Hw⟩
  ihave Hw := (opt_unsep _ _) $$ Hw
  icases Hw with ⟨Hp5, Hr0⟩
  iapply (wait_if m K c (dst := slot rM 1) 6 10 (zc c = 2) (by revert c; decide +kernel) rfl (by decide) (by revert c; decide +kernel) rfl (by revert c; decide +kernel)) $$ [HO Hw6]
  · iframe; isplitr <;> iassumption
  iintro ⟨HO, Hw⟩
  ihave Hw := (opt_unsep _ _) $$ Hw
  icases Hw with ⟨Hp6, Hr1⟩
  iapply (wait_if m K c (dst := slot rM 2) 7 10 (zc c = 3) (by revert c; decide +kernel) rfl (by decide) (by revert c; decide +kernel) rfl (by revert c; decide +kernel)) $$ [HO Hw7]
  · iframe; isplitr <;> iassumption
  iintro ⟨HO, Hw⟩
  ihave Hw := (opt_unsep _ _) $$ Hw
  icases Hw with ⟨Hp7, Hr2⟩
  iapply (wait_if m K c (dst := slot lM 0) 11 10 (zc c = 0) (by revert c; decide +kernel) rfl (by decide) (by revert c; decide +kernel) rfl (by revert c; decide +kernel)) $$ [HO Hw11]
  · iframe; isplitr <;> iassumption
  iintro ⟨HO, Hw⟩
  ihave Hw := (opt_unsep _ _) $$ Hw
  icases Hw with ⟨Hp11, Hl0⟩
  iapply (wait_if m K c (dst := slot lM 1) 12 10 (zc c = 1) (by revert c; decide +kernel) rfl (by decide) (by revert c; decide +kernel) rfl (by revert c; decide +kernel)) $$ [HO Hw12]
  · iframe; isplitr <;> iassumption
  iintro ⟨HO, Hw⟩
  ihave Hw := (opt_unsep _ _) $$ Hw
  icases Hw with ⟨Hp12, Hl1⟩
  iapply (wait_if m K c (dst := slot lM 2) 13 10 (zc c = 2) (by revert c; decide +kernel) rfl (by decide) (by revert c; decide +kernel) rfl (by revert c; decide +kernel)) $$ [HO Hw13]
  · iframe; isplitr <;> iassumption
  iintro ⟨HO, Hw⟩
  ihave Hw := (opt_unsep _ _) $$ Hw
  icases Hw with ⟨Hp13, Hl2⟩
  ihave HRS : RS m c $$ [HrA0 HrB0 HrA1 HrB1 HrA2 HrB2 Hr0 Hr1 Hr2]
  · unfold RS RA; isplitl [HrA0 HrB0 Hr0]
    · isplitl [HrA0]; · iexact HrA0
      isplitl [Hr0]; · iexact Hr0
      iexact HrB0
    isplitl [HrA1 HrB1 Hr1]
    · isplitl [HrA1]; · iexact HrA1
      isplitl [Hr1]; · iexact Hr1
      iexact HrB1
    isplitl [HrA2]; · iexact HrA2
    isplitl [Hr2]; · iexact Hr2
    iexact HrB2
  ihave HLS : LS m c $$ [HlA0 HlB0 HlA1 HlB1 HlA2 HlB2 Hl0 Hl1 Hl2]
  · unfold LS LA; isplitl [HlA0 HlB0 Hl0]
    · isplitl [HlA0]; · iexact HlA0
      isplitl [Hl0]; · iexact Hl0
      iexact HlB0
    isplitl [HlA1 HlB1 Hl1]
    · isplitl [HlA1]; · iexact HlA1
      isplitl [Hl1]; · iexact Hl1
      iexact HlB1
    isplitl [HlA2]; · iexact HlA2
    isplitl [Hl2]; · iexact Hl2
    iexact HlB2
  iapply (step_load_x m c (zk c) (k0_off7_eq c)) $$ Hx; iintro Hx
  ihave Hb := (RS_lend m c) $$ HRS
  icases Hb with ⟨%q, Hs, Hb⟩
  iapply (step_load_slot c rM (fr c) q (rin m c) (off8_eq c)) $$ Hs; iintro Hs
  ihave HRS := Hb $$ Hs
  iapply step_ret
  iapply Hk
  isplitl [HO]; · iexact HO
  isplitl [Hx]; · iexact Hx
  isplitl [HRS]; · iexact HRS
  isplitl [HLS]; · iexact HLS
  iframe

end Cert.KernelIdeal.ReduceScatter
-- ==== Proof.KernelIdeal.PhaseXY.lean ====
/-
# The exchange in the plane

The last five parts of the program: a device's final sum, the exchange of the final sums with the two neighbours in the
plane and, in halves, with the device across, and the result buffer they are gathered in.
-/
module

public import proofs.«01_k».proof.Proof.KernelIdeal.PhaseZ

@[expose] public section

set_option backward.proofsInPublic true

noncomputable section

namespace Cert.KernelIdeal.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 22 → ℕ)

/-! ## What the result buffer is written with -/

/-- The row quarter that a device finishes. -/
def qd (c : Dev nD) : Fin 4 := ⟨2 * xc c + yc c, by revert c; decide +kernel⟩

theorem off10_qd (c : Dev nD) : k0_off10 c = ![256 * (qd c).val, 0] := by revert c; decide +kernel
theorem off11_qd (c : Dev nD) : k0_off11 c = ![256 * (qd (xn c)).val, 0] := by revert c; decide +kernel
theorem off12_qd (c : Dev nD) : k0_off12 c = ![256 * (qd (yn c)).val, 0] := by revert c; decide +kernel
theorem off13_qd (c : Dev nD) : k0_off13 c = ![256 * (qd (xn (yn c))).val, 0] := by revert c; decide +kernel
theorem off14_qd (c : Dev nD) : k0_off14 c = ![256 * (qd (xn (yn c))).val + 128, 0] := by revert c; decide +kernel
theorem qdev_qd (c : Dev nD) : qdev c (qd c) = c := by revert c; decide +kernel
theorem qdev_x (c : Dev nD) : qdev c (qd (xn c)) = xn c := by revert c; decide +kernel
theorem qdev_y (c : Dev nD) : qdev c (qd (yn c)) = yn c := by revert c; decide +kernel
theorem qdev_xy (c : Dev nD) : qdev c (qd (xn (yn c))) = xn (yn c) := by revert c; decide +kernel
theorem qd_all (c : Dev nD) (q : Fin 4) : q = qd c ∨ q = qd (xn c) ∨ q = qd (yn c) ∨ q = qd (xn (yn c)) := by
  revert c q; decide +kernel

/-- The result at a row of quarter `q`. -/
theorem outAt_row (c : Dev nD) (q : Fin 4) (i : S1024x512.Idx) (k : S256x512.Idx) (h0 : (i 0).val = 256 * q.val + (k 0).val)
    (h1 : (i 1).val = (k 1).val) : outAt m c i = mine m (qdev c q) k := by
  have hk : (k 0).val < 256 := (k 0).isLt
  have hq : ∀ h, (⟨(i 0).val / 256, h⟩ : Fin 4) = q := fun h => Fin.ext (by show (i 0).val / 256 = q.val; omega)
  unfold outAt
  dsimp only
  rw [hq]
  congr 1
  funext a
  match a with
  | ⟨0, _⟩ => exact Fin.ext (by show (i 0).val % 256 = (k 0).val; omega)
  | ⟨1, _⟩ => exact Fin.ext h1

/-- The rows `o … o + n - 1` of the result buffer. -/
def rows (o n : ℕ) (i : S1024x512.Idx) : Prop := o ≤ (i 0).val ∧ (i 0).val < o + n

theorem outs_mono (c : Dev nD) {P P' : S1024x512.Idx → Prop} (h : ∀ i, P' i → P i) : outs m c P ⊢ outs m c P' := by
  unfold outs
  iintro ⟨%f, %hf, H⟩
  iexists f
  isplitr; · ipureintro; exact fun i hi => hf i (h i hi)
  iexact H

theorem outs_of_any (c : Dev nD) : anyOf c oM ⊢ outs m c (fun _ => False) := by
  unfold anyOf outs
  iintro ⟨%f, H⟩
  iexists f
  isplitr; · ipureintro; exact fun _ h => h.elim
  iexact H

/-- An index of a rectangle with unit strides, placed. -/
theorem unit_emb_val {s : Shape} (off size : Fin s.rank → ℕ) (inb) (j : (Rect.unit (s := s) off size inb).shape.Idx) (a : Fin s.rank) :
    ((Rect.unit (s := s) off size inb).emb j a).val = off a + (j a).val := by
  rw [Rect.emb_apply]; show off a + 1 * (j a).val = _; omega

/-- A row of a written rectangle is in its image. -/
theorem rows_emb (o n : ℕ) {off : Fin 2 → ℕ} (ho : off = ![o, 0]) {sz : Fin 2 → ℕ} (hs : sz = ![n, 512]) (inb : ∀ a, off a + sz a ≤ S1024x512.size a) (i : S1024x512.Idx) (h : rows o n i) :
    ∃ j, (Rect.unit (s := S1024x512) off sz inb).emb j = i := by
  subst ho hs
  have h0 := h.1
  have h1 := h.2
  have hi : (i 1).val < 512 := (i 1).isLt
  have hj : ∀ a : Fin 2, (i a).val - (![o, 0] : Fin 2 → ℕ) a < (![n, 512] : Fin 2 → ℕ) a := by
    intro a
    match a with
    | ⟨0, _⟩ => show (i 0).val - o < n; omega
    | ⟨1, _⟩ => show (i 1).val - 0 < 512; omega
  refine ⟨fun a => ⟨_, hj a⟩, funext fun a => Fin.ext ?_⟩
  rw [unit_emb_val]
  match a with
  | ⟨0, _⟩ => show o + ((i 0).val - o) = (i 0).val; omega
  | ⟨1, _⟩ => show 0 + ((i 1).val - 0) = (i 1).val; omega

/-- Rows of the result are written with the final sums they are of. -/
theorem step_store_rows (c : Dev nD) (P : S1024x512.Idx → Prop) (o n : ℕ) {r : Rect S1024x512} {w : r.shape.Idx → F .f32} (hw : ∀ j, w j = outAt m c (r.emb j))
    (hr : ∀ i, rows o n i → ∃ j, r.emb j = i)
    {hx : (oM.access r).Stores Finset.univ} {hm}
    {α : Type} {k : PUnit → Prog (TpuEff nD τ sig (Elt F) Λ₀ .tc) α} {Q : α → sProp 𝕄} :
    outs m c P
      ⊢ iprop((outs m c (fun i => P i ∨ rows o n i) -∗ WP c (k ⟨⟩) Q)
          -∗ WP c (.op (.store oM r w Finset.univ hx hm) k) Q) := by
  iintro H Hk
  iapply (step_store_out m c P hw) $$ H
  iintro H
  iapply Hk
  iapply (outs_mono m c (fun i hi => hi.imp id (hr i))) $$ H

/-- A whole row quarter, -/
theorem quarter_val (c : Dev nD) (q : Fin 4) {e : Dev nD} (he : qdev c q = e) {o : Fin 2 → ℕ} (ho : o = ![256 * q.val, 0]) (inb : ∀ a, o a + S256x512.size a ≤ S1024x512.size a)
    (j : (Rect.unit (s := S1024x512) o S256x512.size inb).shape.Idx) : mine m e j = outAt m c ((Rect.unit (s := S1024x512) o S256x512.size inb).emb j) := by
  subst ho he
  refine (outAt_row m c q _ j ?_ ?_).symm
  · exact unit_emb_val (s := S1024x512) _ _ inb j 0
  · exact (unit_emb_val (s := S1024x512) _ _ inb j 1).trans (Nat.zero_add _)
/-- and half of one. -/
theorem half_val (c : Dev nD) (q : Fin 4) (b : ℕ) (inb' : ∀ a, (![b, 0] : Fin 2 → ℕ) a + S128x512.size a ≤ S256x512.size a) {e : Dev nD} (he : qdev c q = e)
    {o : Fin 2 → ℕ} (ho : o = ![256 * q.val + b, 0]) (inb : ∀ a, o a + S128x512.size a ≤ S1024x512.size a)
    (j : (Rect.unit (s := S1024x512) o S128x512.size inb).shape.Idx) :
    mine m e ((Rect.unit (s := S256x512) ![b, 0] S128x512.size inb').emb j) = outAt m c ((Rect.unit (s := S1024x512) o S128x512.size inb).emb j) := by
  subst ho he
  refine (outAt_row m c q _ _ ?_ ?_).symm
  · exact (unit_emb_val (s := S1024x512) _ _ inb j 0).trans ((Nat.add_assoc _ _ _).trans
      (congrArg (256 * q.val + ·) (unit_emb_val (s := S256x512) _ _ inb' j 0).symm))
  · exact (unit_emb_val (s := S1024x512) _ _ inb j 1).trans (unit_emb_val (s := S256x512) _ _ inb' j 1).symm

/-- The rows that device `c` has written after each of the five writes. -/
def R1 (c : Dev nD) (i : S1024x512.Idx) : Prop := False ∨ rows (256 * (qd c).val) 256 i
def R4 (c : Dev nD) (i : S1024x512.Idx) : Prop :=
  ((R1 c i ∨ rows (256 * (qd (xn c)).val) 256 i) ∨ rows (256 * (qd (yn c)).val) 256 i) ∨ rows (256 * (qd (xn (yn c))).val + 0) 128 i
def R5 (c : Dev nD) (i : S1024x512.Idx) : Prop := R4 c i ∨ rows (256 * (qd (xn (yn c))).val + 128) 128 i

theorem R5_all (c : Dev nD) (i : S1024x512.Idx) : R5 c i := by
  have hi : (i 0).val < 1024 := (i 0).isLt
  have hd : (i 0).val / 256 < 4 := by omega
  unfold R5 R4 R1 rows
  rcases qd_all c ⟨(i 0).val / 256, hd⟩ with h | h | h | h <;> (rw [← h]; dsimp only; omega)

/-- All rows written, the result buffer holds the result. -/
theorem outs_done (c : Dev nD) : outs m c (R5 c) ⊢ own c oM fullShare (outAt m c) := by
  unfold outs
  iintro ⟨%f, %hf, H⟩
  have h : f = outAt m c := funext fun i => hf i (R5_all c i)
  rw [h]
  iexact H

/-! ## What the copies in the plane hand over -/

theorem sent18 (c : Dev nD) : payK m (xn c) 18 0 = own (xn c) xbM fullShare (mine m c) := by
  show own (xn c) xbM fullShare (mine m (xn (xn c))) = _; rw [xn_xn]
theorem sent19 (c : Dev nD) : payK m (yn c) 19 0 = own (yn c) ybM fullShare (mine m c) := by
  show own (yn c) ybM fullShare (mine m (yn (yn c))) = _; rw [yn_yn]
theorem sent20 (c : Dev nD) : payK m (yn c) 20 0 = own (yn c) dtM fullShare (top (mine m (xn c))) := by
  show own (yn c) dtM fullShare (top (mine m (xn (yn (yn c))))) = _; rw [yn_yn]
theorem sent21 (c : Dev nD) : payK m (xn c) 21 0 = own (xn c) dbM fullShare (bot (mine m (yn c))) := by
  show own (xn c) dbM fullShare (bot (mine m (yn (xn (xn c))))) = _; rw [xn_xn]

attribute [local irreducible] w8 k0_cond2 k0_cond4 k0_cond6 k0_cond8 k0_cond10 k0_cond12 k0_off1 k0_off2 k0_off3 k0_off4 k0_off5 k0_off6 k0_off7 k0_off8 k0_off9 k0_off10 k0_off11 k0_off12 k0_off13 k0_off14 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18

/-- The final sum, as it is written to the buffer that is sent. -/
theorem mine_eq (c : Dev nD) : k0_pay9 (k0_pay7 (w8 c) (xblk m c (zk c)) (shapeCast S1x256x512 (rin m c) shapeCasts_S256x512_S1x256x512))
    (Scalar.cmpi .slt (w8 c) 3#32) (shapeCast S1x256x512 (lin m c) shapeCasts_S256x512_S1x256x512) = mine m c := by
  unfold k0_pay9; dsimp only; rw [shapeCast_self]; rfl

/-! ## The fifth part: the final sum, written and sent to the two neighbours -/

theorem part5_spec (c : Dev nD) (v2 v5 v11 v17 v18 : BitVec 32) {Kt : _ → sProp 𝕄} :
    iprop(recs m K ∗ levAts L lv ∗ Ow c 10 ∗ LS m c ∗ anyOf c mM ∗ outs m c (fun _ => False)
        ∗ anyOf (xn c) xbM ∗ tok c 24 ∗ tok c 10 ∗ anyOf (yn c) ybM ∗ tok c 25 ∗ tok c 11
        ∗ opt (zc c ≤ 0) iprop(crd c 2 ∗ pos0 c 2)
        ∗ ((Ow c 12 ∗ LS m c ∗ outs m c (R1 c) ∗ crd c 14 ∗ crd c 15 ∗ opt (zc c ≤ 0) iprop(pos1 c 2 ∗ payK m c 2 0))
          -∗ Kt (Scalar.cmpi .slt (w8 c) 2#32)))
      ⊢ WP c (part5 (F := F) c v2 v5 (w8 c) v11 v17 v18
          (k0_pay7 (w8 c) (xblk m c (zk c)) (shapeCast S1x256x512 (rin m c) shapeCasts_S256x512_S1x256x512)) (Scalar.cmpi .slt (w8 c) 3#32)) Kt := by
  unfold part5
  rw [k0_part5_eq_skeleton]; unfold k0_part5_skel
  simp only [semSignalWord, semWaitWord, Prog.lift, Prog.bind_op, Prog.bind_ret, Prog.pure_eq_ret, wp_deviceId]
  iintro ⟨#HR, #Hlev, HO, HLS, Hm, Hout, Hx, Hts14, Htd18, Hy, Hts15, Htd19, Hw2, Hk⟩
  ihave Hm := (show anyOf c mM ⊢ iprop(∃ X : FVec F S256x512 .f32, own c mM fullShare X) from .rfl) $$ Hm
  icases Hm with ⟨%X, Hm⟩
  ihave Hb := (LS_lend m c) $$ HLS
  icases Hb with ⟨%q, Hs, Hb⟩
  iapply (step_load_slot c lM (fl c) q (lin m c) (off9_eq c)) $$ Hs; iintro Hs
  ihave HLS := Hb $$ Hs
  iapply (step_load c mM fullShare X hz) $$ Hm; iintro Hm
  iapply (step_store c mM X _ hz) $$ Hm; iintro Hm
  iapply (step_load_out m c (fun _ => False)) $$ Hout; iintro %vv Hout; clear vv
  iapply (step_store_rows m c (fun _ => False) (256 * (qd c).val) 256 (quarter_val m c (qd c) (qdev_qd c) (off10_qd c) (k0_off10_inb c)) (rows_emb _ _ (off10_qd c) rfl (k0_off10_inb c))) $$ Hout; iintro Hout
  rw [mine_eq]
  ihave Hm := (own_split c mM (mine m c)).1 $$ Hm
  icases Hm with ⟨HmL, HmR⟩
  iapply (step_send m K c 10 24 10 11 rfl rfl (d := xn c) rfl (k₀ := 14) rfl (k₁ := 18) rfl (dev11_eq c) (src := mM) (dst := xbM) (q := fullShare.left) (X := mine m c)
    rfl rfl (by revert c; decide +kernel) rfl (by revert c; decide +kernel) rfl rfl (by decide) rfl (sent18 m c)) $$ [HmL Hx HO Hts14 Htd18]
  · iframe; iassumption
  iintro ⟨Hc14, HO⟩
  iapply (step_send m K c 11 25 11 12 rfl rfl (d := yn c) rfl (k₀ := 15) rfl (k₁ := 19) rfl (dev12_eq c) (src := mM) (dst := ybM) (q := fullShare.right) (X := mine m c)
    rfl rfl (by revert c; decide +kernel) rfl (by revert c; decide +kernel) rfl rfl (by decide) rfl (sent19 m c)) $$ [HmR Hy HO Hts15 Htd19]
  · iframe; iassumption
  iintro ⟨Hc15, HO⟩
  iapply (wait_if m K c (dst := slot rM 0) 2 12 (zc c ≤ 0) (by revert c; decide +kernel) rfl (by decide) (by revert c; decide +kernel) rfl (by revert c; decide +kernel)) $$ [HO Hw2]
  · iframe; isplitr <;> iassumption
  iintro ⟨HO, Hw2⟩
  iapply step_ret
  iapply Hk
  iframe
  iexact Hout

/-! ## The sixth part: the ends of the copies along `z`, and the first arrival in the plane -/

theorem part6_spec (c : Dev nD) (v2 v5 v18 : BitVec 32) {Kt : _ → sProp 𝕄} :
    iprop(recs m K ∗ levAts L lv ∗ Ow c 12
        ∗ opt (zc c ≤ 1) iprop(crd c 3 ∗ pos0 c 3) ∗ opt (zc c ≤ 2) iprop(crd c 4 ∗ pos0 c 4)
        ∗ opt (0 < zc c) iprop(crd c 8 ∗ pos0 c 8) ∗ opt (1 < zc c) iprop(crd c 9 ∗ pos0 c 9) ∗ opt (2 < zc c) iprop(crd c 10 ∗ pos0 c 10)
        ∗ crd c 18 ∗ pos0 c 18
        ∗ ((Ow c 12 ∗ opt (zc c ≤ 1) iprop(pos1 c 3 ∗ payK m c 3 0) ∗ opt (zc c ≤ 2) iprop(pos1 c 4 ∗ payK m c 4 0)
            ∗ opt (0 < zc c) iprop(pos1 c 8 ∗ payK m c 8 0) ∗ opt (1 < zc c) iprop(pos1 c 9 ∗ payK m c 9 0) ∗ opt (2 < zc c) iprop(pos1 c 10 ∗ payK m c 10 0)
            ∗ pos1 c 18 ∗ own c xbM fullShare (mine m (xn c))) -∗ Kt ⟨⟩))
      ⊢ WP c (part6 (F := F) v2 v5 (w8 c) v18 (Scalar.cmpi .slt (w8 c) 2#32)) Kt := by
  unfold part6
  rw [k0_part6_eq_skeleton]; unfold k0_part6_skel
  simp only [semSignalWord, semWaitWord, Prog.lift, Prog.bind_op, Prog.bind_ret, Prog.pure_eq_ret, wp_deviceId]
  iintro ⟨#HR, #Hlev, HO, Hw3, Hw4, Hw8, Hw9, Hw10, Hc18, Hp18, Hk⟩
  iapply (wait_if m K c (dst := slot rM 1) 3 12 (zc c ≤ 1) (by revert c; decide +kernel) rfl (by decide) (by revert c; decide +kernel) rfl (by revert c; decide +kernel)) $$ [HO Hw3]
  · iframe; isplitr <;> iassumption
  iintro ⟨HO, Hw3⟩
  iapply (wait_if m K c (dst := slot rM 2) 4 12 (zc c ≤ 2) (by revert c; decide +kernel) rfl (by decide) (by revert c; decide +kernel) rfl (by revert c; decide +kernel)) $$ [HO Hw4]
  · iframe; isplitr <;> iassumption
  iintro ⟨HO, Hw4⟩
  iapply (wait_if m K c (dst := slot lM 0) 8 12 (0 < zc c) (by revert c; decide +kernel) rfl (by decide) (by revert c; decide +kernel) rfl (by revert c; decide +kernel)) $$ [HO Hw8]
  · iframe; isplitr <;> iassumption
  iintro ⟨HO, Hw8⟩
  iapply (wait_if m K c (dst := slot lM 1) 9 12 (1 < zc c) (by revert c; decide +kernel) rfl (by decide) (by revert c; decide +kernel) rfl (by revert c; decide +kernel)) $$ [HO Hw9]
  · iframe; isplitr <;> iassumption
  iintro ⟨HO, Hw9⟩
  iapply (wait_if m K c (dst := slot lM 2) 10 12 (2 < zc c) (by revert c; decide +kernel) rfl (by decide) (by revert c; decide +kernel) rfl (by revert c; decide +kernel)) $$ [HO Hw10]
  · iframe; isplitr <;> iassumption
  iintro ⟨HO, Hw10⟩
  iapply (step_wait m K c 18 12 rfl (by decide) (by revert c; decide +kernel) (dst := xbM) rfl (by revert c; decide +kernel)) $$ [Hc18 Hp18 HO]
  · iframe; isplitr <;> iassumption
  iintro ⟨HO, Hp18, Hx⟩
  ihave Hx := (show payK m c 18 0 ⊢ own c xbM fullShare (mine m (xn c)) from .rfl) $$ Hx
  iapply step_ret
  iapply Hk
  isplitl [HO]; · iexact HO
  isplitl [Hw3]; · iexact Hw3
  isplitl [Hw4]; · iexact Hw4
  isplitl [Hw8]; · iexact Hw8
  isplitl [Hw9]; · iexact Hw9
  isplitl [Hw10]; · iexact Hw10
  isplitl [Hp18]; · iexact Hp18
  iexact Hx

/-! ## The seventh part: half of each received sum is sent on across -/

theorem part7_spec (c : Dev nD) (v2 v5 v8 v17 : BitVec 32) {Kt : _ → sProp 𝕄} :
    iprop(recs m K ∗ levAts L lv ∗ Ow c 12 ∗ own c xbM fullShare (mine m (xn c))
        ∗ anyOf (yn c) dtM ∗ tok c 26 ∗ tok c 12 ∗ crd c 19 ∗ pos0 c 19 ∗ anyOf (xn c) dbM ∗ tok c 27 ∗ tok c 13 ∗ crd c 20 ∗ pos0 c 20
        ∗ (∀ w, (Ow c 14 ∗ own c xbM fullShare.right (mine m (xn c)) ∗ restOf c xbM topR (fun _ => rfl) fullShare.left (mine m (xn c)) ∗ crd c 16
            ∗ own c ybM fullShare.right (mine m (yn c)) ∗ restOf c ybM botR (fun _ => rfl) fullShare.left (mine m (yn c)) ∗ crd c 17
            ∗ pos1 c 19 ∗ pos1 c 20 ∗ own c dtM fullShare (top (mine m (xn (yn c))))) -∗ Kt w))
      ⊢ WP c (part7 (F := F) c v2 v5 v8 v17) Kt := by
  unfold part7
  rw [k0_part7_eq_skeleton]; unfold k0_part7_skel
  simp only [semSignalWord, semWaitWord, Prog.lift, Prog.bind_op, Prog.bind_ret, Prog.pure_eq_ret, wp_deviceId]
  iintro ⟨#HR, #Hlev, HO, Hx, Hdt, Hts16, Htd20, Hc19, Hp19, Hdb, Hts17, Htd21, Hc20, Hp20, Hk⟩
  ihave Hx := (own_split c xbM (mine m (xn c))).1 $$ Hx
  icases Hx with ⟨HxL, HxR⟩
  ihave HxL := (own_take c xbM topR (fun _ => rfl) fullShare.left (mine m (xn c))) $$ HxL
  icases HxL with ⟨Hxt, HxL⟩
  iapply (step_send m K c 12 26 12 13 rfl rfl (d := yn c) rfl (k₀ := 16) rfl (k₁ := 20) rfl (dev13_eq c) (src := xtM) (dst := dtM) (q := fullShare.left) (X := top (mine m (xn c)))
    rfl rfl (by revert c; decide +kernel) rfl (by revert c; decide +kernel) rfl rfl (by decide) rfl (sent20 m c)) $$ [Hxt Hdt HO Hts16 Htd20]
  · isplitr; · iexact HR
    isplitl [Hxt]; · iexact Hxt
    iframe
  iintro ⟨Hc16, HO⟩
  iapply (step_wait m K c 19 13 rfl (by decide) (by revert c; decide +kernel) (dst := ybM) rfl (by revert c; decide +kernel)) $$ [Hc19 Hp19 HO]
  · iframe; isplitr <;> iassumption
  iintro ⟨HO, Hp19, Hpy⟩
  ihave Hy := (show payK m c 19 0 ⊢ own c ybM fullShare (mine m (yn c)) from .rfl) $$ Hpy
  ihave Hy := (own_split c ybM (mine m (yn c))).1 $$ Hy
  icases Hy with ⟨HyL, HyR⟩
  ihave HyL := (own_take c ybM botR (fun _ => rfl) fullShare.left (mine m (yn c))) $$ HyL
  icases HyL with ⟨Hyb, HyL⟩
  iapply (step_send m K c 13 27 13 14 rfl rfl (d := xn c) rfl (k₀ := 17) rfl (k₁ := 21) rfl (dev14_eq c) (src := ybotM) (dst := dbM) (q := fullShare.left) (X := bot (mine m (yn c)))
    rfl rfl (by revert c; decide +kernel) rfl (by revert c; decide +kernel) rfl rfl (by decide) rfl (sent21 m c)) $$ [Hyb Hdb HO Hts17 Htd21]
  · isplitr; · iexact HR
    isplitl [Hyb]; · iexact Hyb
    iframe
  iintro ⟨Hc17, HO⟩
  iapply (step_wait m K c 20 14 rfl (by decide) (by revert c; decide +kernel) (dst := dtM) rfl (by revert c; decide +kernel)) $$ [Hc20 Hp20 HO]
  · iframe; isplitr <;> iassumption
  iintro ⟨HO, Hp20, Hpd⟩
  ihave Hdt := (show payK m c 20 0 ⊢ own c dtM fullShare (top (mine m (xn (yn c)))) from .rfl) $$ Hpd
  iapply step_ret
  iapply Hk
  iframe

/-! ## The eighth part: the received sums are written to the result -/

theorem part8_spec (c : Dev nD) (v2 v5 v8 v222 : BitVec 32) {Kt : _ → sProp 𝕄} :
    iprop(recs m K ∗ levAts L lv ∗ Ow c 14 ∗ crd c 21 ∗ pos0 c 21 ∗ own c xbM fullShare.right (mine m (xn c)) ∗ own c ybM fullShare.right (mine m (yn c))
        ∗ own c dtM fullShare (top (mine m (xn (yn c)))) ∗ outs m c (R1 c)
        ∗ (∀ w, (Ow c 14 ∗ pos1 c 21 ∗ own c xbM fullShare.right (mine m (xn c)) ∗ own c ybM fullShare.right (mine m (yn c))
            ∗ own c dtM fullShare (top (mine m (xn (yn c)))) ∗ own c dbM fullShare (bot (mine m (yn (xn c)))) ∗ outs m c (R4 c)) -∗ Kt w))
      ⊢ WP c (part8 (F := F) c v2 v5 v8 v222) Kt := by
  unfold part8
  rw [k0_part8_eq_skeleton]; unfold k0_part8_skel
  simp only [semSignalWord, semWaitWord, Prog.lift, Prog.bind_op, Prog.bind_ret, Prog.pure_eq_ret, wp_deviceId]
  iintro ⟨#HR, #Hlev, HO, Hc21, Hp21, Hx, Hy, Hdt, Hout, Hk⟩
  iapply (step_wait m K c 21 14 rfl (by decide) (by revert c; decide +kernel) (dst := dbM) rfl (by revert c; decide +kernel)) $$ [Hc21 Hp21 HO]
  · iframe; isplitr <;> iassumption
  iintro ⟨HO, Hp21, Hpd⟩
  ihave Hdb := (show payK m c 21 0 ⊢ own c dbM fullShare (bot (mine m (yn (xn c)))) from .rfl) $$ Hpd
  iapply (step_load c xbM fullShare.right (mine m (xn c)) hz) $$ Hx; iintro Hx
  iapply (step_load_out m c (R1 c)) $$ Hout; iintro %vv Hout; clear vv
  iapply (step_store_rows m c (R1 c) (256 * (qd (xn c)).val) 256 (quarter_val m c (qd (xn c)) (qdev_x c) (off11_qd c) (k0_off11_inb c)) (rows_emb _ _ (off11_qd c) rfl (k0_off11_inb c))) $$ Hout; iintro Hout
  iapply (step_load c ybM fullShare.right (mine m (yn c)) hz) $$ Hy; iintro Hy
  iapply (step_load_out m c _) $$ Hout; iintro %vv' Hout; clear vv'
  iapply (step_store_rows m c _ (256 * (qd (yn c)).val) 256 (quarter_val m c (qd (yn c)) (qdev_y c) (off12_qd c) (k0_off12_inb c)) (rows_emb _ _ (off12_qd c) rfl (k0_off12_inb c))) $$ Hout; iintro Hout
  iapply (step_load c dtM fullShare (top (mine m (xn (yn c)))) hz) $$ Hdt; iintro Hdt
  iapply (step_load_out m c _) $$ Hout; iintro %vv'' Hout; clear vv''
  iapply (step_store_rows m c _ (256 * (qd (xn (yn c))).val + 0) 128 (half_val m c (qd (xn (yn c))) 0 inb_S256x512_S128x512_0_0 (qdev_xy c) (off13_qd c) (k0_off13_inb c)) (rows_emb _ _ (off13_qd c) rfl (k0_off13_inb c))) $$ Hout; iintro Hout
  iapply step_ret
  iapply Hk
  isplitl [HO]; · iexact HO
  isplitl [Hp21]; · iexact Hp21
  isplitl [Hx]; · iexact Hx
  isplitl [Hy]; · iexact Hy
  isplitl [Hdt]; · iexact Hdt
  isplitl [Hdb]; · iexact Hdb
  iexact Hout

/-! ## The ninth part: the last write, the ends of the copies in the plane, and the first signal of the exit barrier -/

theorem part9_spec (c : Dev nD) (v2 v5 v16 v240 : BitVec 32) {Kt : _ → sProp 𝕄} :
    iprop(recs m K ∗ levAts L lv ∗ Ow c 14 ∗ own c dbM fullShare (bot (mine m (yn (xn c)))) ∗ outs m c (R4 c)
        ∗ crd c 14 ∗ pos0 c 14 ∗ crd c 15 ∗ pos0 c 15 ∗ crd c 16 ∗ pos0 c 16 ∗ crd c 17 ∗ pos0 c 17
        ∗ own c xbM fullShare.right (mine m (xn c)) ∗ restOf c xbM topR (fun _ => rfl) fullShare.left (mine m (xn c))
        ∗ own c ybM fullShare.right (mine m (yn c)) ∗ restOf c ybM botR (fun _ => rfl) fullShare.left (mine m (yn c)) ∗ tok c 14
        ∗ (∀ w, (Ow c 15 ∗ anyOf c dbM ∗ own c oM fullShare (outAt m c) ∗ pos1 c 14 ∗ pos1 c 15 ∗ pos1 c 16 ∗ pos1 c 17
            ∗ anyOf c mM ∗ anyOf c xbM ∗ anyOf c ybM) -∗ Kt ⟨w, 1#32⟩))
      ⊢ WP c (part9 (F := F) c v2 v5 v16 v240) Kt := by
  unfold part9
  rw [k0_part9_eq_skeleton]; unfold k0_part9_skel
  simp only [semSignalWord, semWaitWord, Prog.lift, Prog.bind_op, Prog.bind_ret, Prog.pure_eq_ret, wp_deviceId]
  iintro ⟨#HR, #Hlev, HO, Hdb, Hout, Hc14, Hp14, Hc15, Hp15, Hc16, Hp16, Hc17, Hp17, HxR, HxL, HyR, HyL, Ht, Hk⟩
  rw [← xn_yn]
  iapply (step_load c dbM fullShare (bot (mine m (xn (yn c)))) hz) $$ Hdb; iintro Hdb
  iapply (step_load_out m c (R4 c)) $$ Hout; iintro %vv Hout; clear vv
  iapply (step_store_rows m c (R4 c) (256 * (qd (xn (yn c))).val + 128) 128 (half_val m c (qd (xn (yn c))) 128 inb_S256x512_S128x512_128_0 (qdev_xy c) (off14_qd c) (k0_off14_inb c)) (rows_emb _ _ (off14_qd c) rfl (k0_off14_inb c))) $$ Hout; iintro Hout
  ihave Hout := (show outs m c (fun i => R4 c i ∨ rows (256 * (qd (xn (yn c))).val + 128) 128 i) ⊢ own c oM fullShare (outAt m c) from outs_done m c) $$ Hout
  iapply (step_wait m K c 14 14 rfl (by decide) (by revert c; decide +kernel) (dst := mM) rfl (by revert c; decide +kernel)) $$ [Hc14 Hp14 HO]
  · iframe; isplitr <;> iassumption
  iintro ⟨HO, Hp14, HmL⟩
  ihave HmL := (show payK m c 14 0 ⊢ own c mM fullShare.left (mine m c) from .rfl) $$ HmL
  iapply (step_wait m K c 15 14 rfl (by decide) (by revert c; decide +kernel) (dst := mM) rfl (by revert c; decide +kernel)) $$ [Hc15 Hp15 HO]
  · iframe; isplitr <;> iassumption
  iintro ⟨HO, Hp15, HmR⟩
  ihave HmR := (show payK m c 15 0 ⊢ own c mM fullShare.right (mine m c) from .rfl) $$ HmR
  iapply (step_wait m K c 16 14 rfl (by decide) (by revert c; decide +kernel) (dst := xtM) rfl (by revert c; decide +kernel)) $$ [Hc16 Hp16 HO]
  · iframe; isplitr <;> iassumption
  iintro ⟨HO, Hp16, Hxt⟩
  ihave Hxt := (show payK m c 16 0 ⊢ own c xtM fullShare.left (top (mine m (xn c))) from .rfl) $$ Hxt
  iapply (step_wait m K c 17 14 rfl (by decide) (by revert c; decide +kernel) (dst := ybotM) rfl (by revert c; decide +kernel)) $$ [Hc17 Hp17 HO]
  · iframe; isplitr <;> iassumption
  iintro ⟨HO, Hp17, Hyb⟩
  ihave Hyb := (show payK m c 17 0 ⊢ own c ybotM fullShare.left (bot (mine m (yn c))) from .rfl) $$ Hyb
  ihave Hm := (own_split c mM (mine m c)).2 $$ [HmL HmR]
  · isplitl [HmL]; · iexact HmL
    iexact HmR
  ihave HxL := (own_put c xbM topR (fun _ => rfl) fullShare.left (mine m (xn c))) $$ [HxL Hxt]
  · isplitl [Hxt]; · iexact Hxt
    iexact HxL
  ihave Hx := (own_split c xbM (mine m (xn c))).2 $$ [HxL HxR]
  · iframe
  ihave HyL := (own_put c ybM botR (fun _ => rfl) fullShare.left (mine m (yn c))) $$ [HyL Hyb]
  · isplitl [Hyb]; · iexact Hyb
    iexact HyL
  ihave Hy := (own_split c ybM (mine m (yn c))).2 $$ [HyL HyR]
  · iframe
  iapply (step_signal m K c 14 14 15 rfl rfl (dev15_eq c) (P := iprop(emp)) rfl rfl (by revert c; decide +kernel) rfl) $$ [HO Ht]
  · iframe; iassumption
  iintro HO
  iapply step_ret
  iapply Hk
  isplitl [HO]; · iexact HO
  isplitl [Hdb]; · iapply (own_any c dbM) $$ Hdb
  isplitl [Hout]; · iexact Hout
  isplitl [Hp14]; · iexact Hp14
  isplitl [Hp15]; · iexact Hp15
  isplitl [Hp16]; · iexact Hp16
  isplitl [Hp17]; · iexact Hp17
  isplitl [Hm]; · iapply (own_any c mM) $$ Hm
  isplitl [Hx]; · iapply (own_any c xbM) $$ Hx
  iapply (own_any c ybM) $$ Hy

end Cert.KernelIdeal.ReduceScatter
-- ==== Proof.KernelIdeal.Body.lean ====
/-
# The whole program of a device

Before the parts: how the buffers, the payments to make and the waits are shared out among them. After the parts: how the
slots come together again and every semaphore is seen to be zero. Then the program from end to end.
-/
module

public import proofs.«01_k».proof.Proof.KernelIdeal.PhaseXY

@[expose] public section

set_option backward.proofsInPublic true

noncomputable section

namespace Cert.KernelIdeal.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 22 → ℕ)

/-! ## Slots of a buffer -/

theorem anyOf_pts (c : Dev nD) {s : Shape} (M : Memref sig .tc .vmem s .f32) :
    anyOf (F := F) c M ⊣⊢ iprop(∃ f, M.view.loc (c : Thread nD τ) ↦[M.view.set]{fullShare} f) := by
  unfold anyOf own owns
  constructor
  · iintro ⟨%X, %f, %hf, H⟩
    iexists f; iexact H
  · iintro ⟨%f, H⟩
    iexists (M.view.read (Elt F) f), f
    isplitr; · ipureintro; rfl
    iexact H

theorem slot_any (c : Dev nD) (M : Memref sig .tc .vmem S3x256x512 .f32) (j : Fin 3) :
    anyOf (F := F) c (slot M j) ⊣⊢ anyOf c (M.slice (slotR j) (fun _ => rfl)) := by
  have h : (slot M j).view.set = (M.slice (slotR j) (fun _ => rfl)).view.set := View.set_reshape _ _
  have h₁ := anyOf_pts (F := F) c (slot M j)
  have h₂ := anyOf_pts (F := F) c (M.slice (slotR j) (fun _ => rfl))
  rw [h] at h₁
  exact ⟨h₁.1.trans h₂.2, h₂.1.trans h₁.2⟩

theorem slot_mem (j : Fin 3) (i : S3x256x512.Idx) : i ∈ (slotR j).set ↔ (i 0).val = j.val := by
  rw [← Rect.map_emb_univ]
  constructor
  · intro h
    obtain ⟨k, -, rfl⟩ := Finset.mem_map.1 h
    have hk : (k 0).val < 1 := (k 0).isLt
    refine (unit_emb_val (s := S3x256x512) _ _ (inb_slot j) k 0).trans ?_
    show j.val + (k 0).val = j.val
    omega
  · intro h
    refine Finset.mem_map.2 ⟨fun a => match a with
      | ⟨0, _⟩ => ⟨0, Nat.one_pos⟩
      | ⟨1, _⟩ => i 1
      | ⟨2, _⟩ => i 2, Finset.mem_univ _, funext fun a => Fin.ext ?_⟩
    refine (unit_emb_val (s := S3x256x512) _ _ (inb_slot j) _ a).trans ?_
    match a with
    | ⟨0, _⟩ => exact h.symm
    | ⟨1, _⟩ => exact Nat.zero_add _
    | ⟨2, _⟩ => exact Nat.zero_add _

theorem slots_disjoint (j j' : Fin 3) (h : j ≠ j') : Disjoint (slotR j).set (slotR j').set := by
  rw [Finset.disjoint_left]
  intro i hi hi'
  exact h (Fin.ext (((slot_mem j i).1 hi).symm.trans ((slot_mem j' i).1 hi')))

theorem slots_cover : (Finset.univ : Finset (Fin 3)).biUnion (fun j => (slotR j).set) = Finset.univ := by
  ext i
  refine ⟨fun _ => Finset.mem_univ _, fun _ => Finset.mem_biUnion.2 ⟨i 0, Finset.mem_univ _, (slot_mem (i 0) i).2 rfl⟩⟩

/-- A buffer of three slots is its slots. -/
theorem slots_split (c : Dev nD) (M : Memref sig .tc .vmem S3x256x512 .f32) :
    anyOf (F := F) c M ⊢ iprop(anyOf c (slot M 0) ∗ anyOf c (slot M 1) ∗ anyOf c (slot M 2)) := by
  have h (X : FVec F S3x256x512 .f32) := owns_rects (Ix := Unit) (Name := ℕ) (U := UU) (Lvl := ℕ) (Val := Elt F) (c : Thread nD τ) M fullShare slotR (fun _ _ => rfl) slots_disjoint slots_cover X
  have hl (Φ : Fin 3 → sProp 𝕄) : bigSep Finset.univ Φ = iprop(Φ 0 ∗ Φ 1 ∗ Φ 2) := bigSep_univ_eq_bigSepL [(0 : Fin 3), 1, 2] (by decide) (by decide) Φ
  have ha (j : Fin 3) (Y : FVec F S1x256x512 .f32) : own c (M.slice (slotR j) (fun _ => rfl)) fullShare Y ⊢ anyOf c (slot M j) :=
    (own_any c (M.slice (slotR j) (fun _ => rfl)) Y).trans (slot_any c M j).2
  iintro H
  ihave H := (show anyOf c M ⊢ iprop(∃ X : FVec F S3x256x512 .f32, own c M fullShare X) from .rfl) $$ H
  icases H with ⟨%X, H⟩
  ihave H := ((h X).trans (Entails.of_eq (hl _))) $$ H
  icases H with ⟨H0, H1, H2⟩
  isplitl [H0]; · iapply (ha 0 _) $$ H0
  isplitl [H1]; · iapply (ha 1 _) $$ H1
  iapply (ha 2 _) $$ H2

/-- The contents of a buffer of three slots, from those of its slots. -/
def ofSlots (Y : Fin 3 → FVec F S1x256x512 .f32) : FVec F S3x256x512 .f32 := Rect.glue slotR slots_cover Y

theorem ofSlots_emb (Y : Fin 3 → FVec F S1x256x512 .f32) (j : Fin 3) : (fun k => ofSlots Y ((slotR j).emb k)) = Y j :=
  funext fun k => Rect.glue_emb slotR slots_cover slots_disjoint Y j k

theorem slots_join (c : Dev nD) (M : Memref sig .tc .vmem S3x256x512 .f32) :
    iprop(anyOf c (slot M 0) ∗ anyOf c (slot M 1) ∗ anyOf c (slot M 2)) ⊢ anyOf (F := F) c M := by
  have : ∀ e, Nonempty (Elt F e) := fun e => ⟨(Elt.inhabited F e).default⟩
  have h (X : FVec F S3x256x512 .f32) := owns_of_rects (Ix := Unit) (Name := ℕ) (U := UU) (Lvl := ℕ) (Val := Elt F) (c : Thread nD τ) M fullShare slotR (fun _ _ => rfl) slots_disjoint slots_cover X
  have hl (Φ : Fin 3 → sProp 𝕄) : bigSep Finset.univ Φ = iprop(Φ 0 ∗ Φ 1 ∗ Φ 2) := bigSep_univ_eq_bigSepL [(0 : Fin 3), 1, 2] (by decide) (by decide) Φ
  have ha (j : Fin 3) : anyOf c (slot M j) ⊢ iprop(∃ Y : FVec F S1x256x512 .f32, own c (M.slice (slotR j) (fun _ => rfl)) fullShare Y) :=
    (slot_any c M j).1
  iintro ⟨H0, H1, H2⟩
  ihave H0 := (ha 0) $$ H0
  ihave H1 := (ha 1) $$ H1
  ihave H2 := (ha 2) $$ H2
  icases H0 with ⟨%Y0, H0⟩
  icases H1 with ⟨%Y1, H1⟩
  icases H2 with ⟨%Y2, H2⟩
  iapply (own_any c M (ofSlots ![Y0, Y1, Y2]))
  iapply (h (ofSlots ![Y0, Y1, Y2]))
  rw [hl]
  have he (j : Fin 3) (Y : FVec F S1x256x512 .f32) (hY : (![Y0, Y1, Y2] : Fin 3 → FVec F S1x256x512 .f32) j = Y) :
      own c (M.slice (slotR j) (fun _ => rfl)) fullShare Y
        ⊢ owns (Ix := Unit) (Name := ℕ) (U := UU) (Lvl := ℕ) (c : Thread nD τ) (M.slice (slotR j) (fun _ => rfl)) fullShare (fun k => ofSlots ![Y0, Y1, Y2] ((slotR j).emb k)) := by
    rw [ofSlots_emb, hY]
  isplitl [H0]; · iapply (he 0 Y0 rfl) $$ H0
  isplitl [H1]; · iapply (he 1 Y1 rfl) $$ H1
  iapply (he 2 Y2 rfl) $$ H2

/-! ## What a device hands its neighbours at the start, and what it keeps -/

theorem zc_zl_all (c : Dev nD) : zc (zl c) = (zc c + 3) % 4 := by revert c; decide +kernel
theorem zc_zr_all (c : Dev nD) : zc (zr c) = (zc c + 1) % 4 := by revert c; decide +kernel

theorem start_r (c : Dev nD) :
    anyOf (F := F) c rM ⊢ iprop(barPay (zl c) 0
      ∗ opt (zc c = 0) (anyOf c (slot rM 0)) ∗ opt (zc c = 0) (anyOf c (slot rM 1)) ∗ opt (zc c = 0) (anyOf c (slot rM 2))
      ∗ opt (1 < zc c) (anyOf c (slot rM 0)) ∗ opt (2 < zc c) (anyOf c (slot rM 1)) ∗ opt (3 < zc c) (anyOf c (slot rM 2))) := by
  have hz := zc_zl_all c
  have hlt := zc_lt c
  have hb : barPay (F := F) (zl c) 0 = iprop(opt (zc (zl c) ≤ 0) (anyOf c (slot rM 0)) ∗ opt (zc (zl c) ≤ 1) (anyOf c (slot rM 1)) ∗ opt (zc (zl c) ≤ 2) (anyOf c (slot rM 2))) := by
    show iprop(opt (zc (zl c) ≤ 0) (anyOf (zr (zl c)) (slot rM 0)) ∗ opt (zc (zl c) ≤ 1) (anyOf (zr (zl c)) (slot rM 1)) ∗ opt (zc (zl c) ≤ 2) (anyOf (zr (zl c)) (slot rM 2))) = _
    rw [zr_zl]
  rw [hb]
  iintro H
  ihave H := (slots_split c rM) $$ H
  icases H with ⟨H0, H1, H2⟩
  ihave H0 := (opt_split3 (zc (zl c) ≤ 0) (zc c = 0) (1 < zc c) (by rw [hz]; omega) (by omega) (anyOf c (slot rM 0))) $$ H0
  ihave H1 := (opt_split3 (zc (zl c) ≤ 1) (zc c = 0) (2 < zc c) (by rw [hz]; omega) (by omega) (anyOf c (slot rM 1))) $$ H1
  ihave H2 := (opt_split3 (zc (zl c) ≤ 2) (zc c = 0) (3 < zc c) (by rw [hz]; omega) (by omega) (anyOf c (slot rM 2))) $$ H2
  icases H0 with ⟨A0, B0, C0⟩
  icases H1 with ⟨A1, B1, C1⟩
  icases H2 with ⟨A2, B2, C2⟩
  isplitl [A0 A1 A2]
  · isplitl [A0]; · iexact A0
    isplitl [A1]; · iexact A1
    iexact A2
  isplitl [B0]; · iexact B0
  isplitl [B1]; · iexact B1
  isplitl [B2]; · iexact B2
  isplitl [C0]; · iexact C0
  isplitl [C1]; · iexact C1
  iexact C2

theorem start_l (c : Dev nD) :
    anyOf (F := F) c lM ⊢ iprop(barPay (zr c) 1
      ∗ opt (zc c = 3) (anyOf c (slot lM 0)) ∗ opt (zc c = 3) (anyOf c (slot lM 1)) ∗ opt (zc c = 3) (anyOf c (slot lM 2))
      ∗ opt (zc c < 0) (anyOf c (slot lM 0)) ∗ opt (zc c < 1) (anyOf c (slot lM 1)) ∗ opt (zc c < 2) (anyOf c (slot lM 2))) := by
  have hz := zc_zr_all c
  have hlt := zc_lt c
  have hb : barPay (F := F) (zr c) 1 = iprop(opt (0 < zc (zr c)) (anyOf c (slot lM 0)) ∗ opt (1 < zc (zr c)) (anyOf c (slot lM 1)) ∗ opt (2 < zc (zr c)) (anyOf c (slot lM 2))) := by
    show iprop(opt (0 < zc (zr c)) (anyOf (zl (zr c)) (slot lM 0)) ∗ opt (1 < zc (zr c)) (anyOf (zl (zr c)) (slot lM 1)) ∗ opt (2 < zc (zr c)) (anyOf (zl (zr c)) (slot lM 2))) = _
    rw [zl_zr]
  rw [hb]
  iintro H
  ihave H := (slots_split c lM) $$ H
  icases H with ⟨H0, H1, H2⟩
  ihave H0 := (opt_split3 (0 < zc (zr c)) (zc c = 3) (zc c < 0) (by rw [hz]; omega) (by omega) (anyOf c (slot lM 0))) $$ H0
  ihave H1 := (opt_split3 (1 < zc (zr c)) (zc c = 3) (zc c < 1) (by rw [hz]; omega) (by omega) (anyOf c (slot lM 1))) $$ H1
  ihave H2 := (opt_split3 (2 < zc (zr c)) (zc c = 3) (zc c < 2) (by rw [hz]; omega) (by omega) (anyOf c (slot lM 2))) $$ H2
  icases H0 with ⟨A0, B0, C0⟩
  icases H1 with ⟨A1, B1, C1⟩
  icases H2 with ⟨A2, B2, C2⟩
  isplitl [A0 A1 A2]
  · isplitl [A0]; · iexact A0
    isplitl [A1]; · iexact A1
    iexact A2
  isplitl [B0]; · iexact B0
  isplitl [B1]; · iexact B1
  isplitl [B2]; · iexact B2
  isplitl [C0]; · iexact C0
  isplitl [C1]; · iexact C1
  iexact C2

theorem start_x (c : Dev nD) : iprop(anyOf (F := F) c xbM ∗ anyOf c dbM) ⊢ barPay (xn c) 2 := by
  show _ ⊢ iprop(anyOf (xn (xn c)) xbM ∗ anyOf (xn (xn c)) dbM)
  rw [xn_xn]
theorem start_y (c : Dev nD) : iprop(anyOf (F := F) c ybM ∗ anyOf c dtM) ⊢ barPay (yn c) 3 := by
  show _ ⊢ iprop(anyOf (yn (yn c)) ybM ∗ anyOf (yn (yn c)) dtM)
  rw [yn_yn]

/-! ## What comes back -/

/-- A slot at the end: the share that was sent on comes back to the share that was kept. -/
theorem slot_back_r (c : Dev nD) (j : Fin 3) {k : Fin 22} (hk : payK m c k 0 = own c (slot rM j) fullShare.left (rsum m c j)) :
    iprop(RA m c j ∗ opt (zc c ≤ j.val) (payK m c k 0)) ⊢ anyOf c (slot rM j) := by
  rw [hk]
  unfold RA
  rcases Nat.lt_or_ge j.val (zc c) with h | h
  · rcases Nat.lt_or_ge (j.val + 1) (zc c) with h' | h'
    · rw [opt_neg (by omega), opt_neg (by omega), opt_pos h', opt_neg (by omega)]
      iintro ⟨⟨-, -, H⟩, -⟩; iexact H
    · rw [opt_neg (by omega), opt_pos (by omega), opt_neg (by omega), opt_neg (by omega)]
      iintro ⟨⟨-, H, -⟩, -⟩; iapply (own_any c (slot rM j)) $$ H
  · rw [opt_pos (by omega), opt_neg (by omega), opt_neg (by omega), opt_pos (by omega)]
    iintro ⟨⟨HR, -, -⟩, HL⟩
    iapply (own_any c (slot rM j) (rsum m c j))
    iapply (own_split c (slot rM j) (rsum m c j)).2
    isplitl [HL]; · iexact HL
    iexact HR
theorem slot_back_l (c : Dev nD) (j : Fin 3) {k : Fin 22} (hk : payK m c k 0 = own c (slot lM j) fullShare.left (lsum m c j)) :
    iprop(LA m c j ∗ opt (j.val < zc c) (payK m c k 0)) ⊢ anyOf c (slot lM j) := by
  rw [hk]
  unfold LA
  rcases Nat.lt_or_ge j.val (zc c) with h | h
  · rw [opt_pos (by omega), opt_neg (by omega), opt_neg (by omega), opt_pos (by omega)]
    iintro ⟨⟨HR, -, -⟩, HL⟩
    iapply (own_any c (slot lM j) (lsum m c j))
    iapply (own_split c (slot lM j) (lsum m c j)).2
    isplitl [HL]; · iexact HL
    iexact HR
  · rcases Nat.lt_or_ge (zc c) j.val with h' | h'
    · rw [opt_neg (by omega), opt_neg (by omega), opt_pos h', opt_neg (by omega)]
      iintro ⟨⟨-, -, H⟩, -⟩; iexact H
    · rw [opt_neg (by omega), opt_pos (by omega), opt_neg (by omega), opt_neg (by omega)]
      iintro ⟨⟨-, H, -⟩, -⟩; iapply (own_any c (slot lM j)) $$ H

theorem back_r (c : Dev nD) : iprop(RS m c ∗ opt (zc c ≤ 0) (payK m c 2 0) ∗ opt (zc c ≤ 1) (payK m c 3 0) ∗ opt (zc c ≤ 2) (payK m c 4 0)) ⊢ anyOf c rM := by
  unfold RS
  iintro ⟨⟨H0, H1, H2⟩, P0, P1, P2⟩
  iapply (slots_join c rM)
  isplitl [H0 P0]
  · iapply (slot_back_r m c 0 (k := 2) rfl); isplitl [H0]; · iexact H0
    iexact P0
  isplitl [H1 P1]
  · iapply (slot_back_r m c 1 (k := 3) rfl); isplitl [H1]; · iexact H1
    iexact P1
  iapply (slot_back_r m c 2 (k := 4) rfl); isplitl [H2]; · iexact H2
  iexact P2
theorem back_l (c : Dev nD) : iprop(LS m c ∗ opt (0 < zc c) (payK m c 8 0) ∗ opt (1 < zc c) (payK m c 9 0) ∗ opt (2 < zc c) (payK m c 10 0)) ⊢ anyOf c lM := by
  unfold LS
  iintro ⟨⟨H0, H1, H2⟩, P0, P1, P2⟩
  iapply (slots_join c lM)
  isplitl [H0 P0]
  · iapply (slot_back_l m c 0 (k := 8) rfl); isplitl [H0]; · iexact H0
    iexact P0
  isplitl [H1 P1]
  · iapply (slot_back_l m c 1 (k := 9) rfl); isplitl [H1]; · iexact H1
    iexact P1
  iapply (slot_back_l m c 2 (k := 10) rfl); isplitl [H2]; · iexact H2
  iexact P2

/-! ## Every semaphore is zero at the end -/

/-- Semaphore `k` of device `c` is zero. -/
abbrev zv (c : Dev nD) (k : Fin 22) : sProp 𝕄 := semVal (kcell (c, k)) 0

theorem zero_one (c : Dev nD) (k : Fin 22) : iprop(recs m K ∗ pos1 c k) ⊢ iprop(|={Set.univ}=> zv (F := F) c k) := by
  unfold pos1 zv
  iintro ⟨#HR, H⟩
  ihave HI := (recs_at m K (c, k)) $$ HR
  icases HI with ⟨#HI, -⟩
  iapply (Rounds.cell_close ER (Rd m) (Set.mem_univ (K (c, k))) (fun h => h) (R := 0 + 1) (fun r hr => duties_later m _ r hr))
  isplitr; · iexact HI
  iexact H

theorem zero_none (c : Dev nD) (k : Fin 22) (h2 : 2 ≤ k.val) (h : used c k = false) : iprop(recs m K ∗ pos0 c k) ⊢ iprop(|={Set.univ}=> zv (F := F) c k) := by
  unfold pos0 zv
  iintro ⟨#HR, H⟩
  ihave HI := (recs_at m K (c, k)) $$ HR
  icases HI with ⟨#HI, -⟩
  iapply (Rounds.cell_close ER (Rd m) (Set.mem_univ (K (c, k))) (fun h => h) (R := 0) (duties_unused m c k (duK_none c k h2 h)))
  isplitr; · iexact HI
  iexact H

/-- A semaphore for the end of an own copy that some devices make, -/
def endS (c : Dev nD) (k : Fin 22) (b : Prop) [Decidable b] : sProp 𝕄 := iprop(opt b (pos1 c k) ∗ opt (¬ b) (pos0 c k))
/-- and one for the arrival of a copy, waited for in one of two places. -/
def endR (c : Dev nD) (k : Fin 22) (b₁ b₂ b₃ : Prop) [Decidable b₁] [Decidable b₂] [Decidable b₃] : sProp 𝕄 :=
  iprop(opt b₁ (pos1 c k) ∗ opt b₂ (pos1 c k) ∗ opt b₃ iprop(crd c k ∗ pos0 c k))

theorem zero_S (c : Dev nD) (k : Fin 22) (b : Prop) [Decidable b] (h2 : 2 ≤ k.val) (h : ¬ b → used c k = false) :
    iprop(recs m K ∗ endS c k b) ⊢ iprop(|={Set.univ}=> zv (F := F) c k) := by
  unfold endS
  by_cases hb : b
  · rw [opt_pos hb]
    iintro ⟨#HR, H, -⟩
    iapply (zero_one m K c k); isplitr; · iexact HR
    iexact H
  · rw [opt_pos (b := ¬ b) hb]
    iintro ⟨#HR, -, H⟩
    iapply (zero_none m K c k h2 (h hb)); isplitr; · iexact HR
    iexact H

theorem zero_R (c : Dev nD) (k : Fin 22) (b₁ b₂ b₃ : Prop) [Decidable b₁] [Decidable b₂] [Decidable b₃] (h2 : 2 ≤ k.val) (h : ¬ b₁ → ¬ b₂ → b₃ ∧ used c k = false) :
    iprop(recs m K ∗ endR c k b₁ b₂ b₃) ⊢ iprop(|={Set.univ}=> zv (F := F) c k) := by
  unfold endR
  by_cases h₁ : b₁
  · rw [opt_pos h₁]
    iintro ⟨#HR, H, -⟩
    iapply (zero_one m K c k); isplitr; · iexact HR
    iexact H
  by_cases h₂ : b₂
  · rw [opt_pos h₂]
    iintro ⟨#HR, -, H, -⟩
    iapply (zero_one m K c k); isplitr; · iexact HR
    iexact H
  obtain ⟨h₃, hu⟩ := h h₁ h₂
  rw [opt_pos h₃]
  iintro ⟨#HR, -, -, -, H⟩
  iapply (zero_none m K c k h2 hu); isplitr; · iexact HR
  iexact H

/-- All semaphores of the program are zero. -/
def zeros (c : Dev nD) : sProp 𝕄 := bigSep Finset.univ fun k : Fin 22 => zv (F := F) c k

theorem list_k (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [(0 : Fin 22), 1, 2, 3, 4, 5, 6, 7, 8, 9, 10, 11, 12, 13, 14, 15, 16, 17, 18, 19, 20, 21] (by decide) (by decide) Φ
theorem list_s (Φ : Fin 28 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [(0 : Fin 28), 1, 2, 3, 4, 5, 6, 7, 8, 9, 10, 11, 12, 13, 14, 15, 16, 17, 18, 19, 20, 21, 22, 23, 24, 25, 26, 27] (by decide) (by decide) Φ

/-- How the semaphores are left. -/
def ends (c : Dev nD) : sProp 𝕄 :=
  iprop(pos1 (F := F) c 0
    ∗ pos1 c 1
    ∗ endS c 2 (zc c ≤ 0)
    ∗ endS c 3 (zc c ≤ 1)
    ∗ endS c 4 (zc c ≤ 2)
    ∗ endR c 5 (1 ≤ zc c ∧ zc c ≤ 0) (zc c = 1) (zc c = 0 ∨ 1 < zc c)
    ∗ endR c 6 (1 ≤ zc c ∧ zc c ≤ 1) (zc c = 2) (zc c = 0 ∨ 2 < zc c)
    ∗ endR c 7 (1 ≤ zc c ∧ zc c ≤ 2) (zc c = 3) (zc c = 0 ∨ 3 < zc c)
    ∗ endS c 8 (0 < zc c)
    ∗ endS c 9 (1 < zc c)
    ∗ endS c 10 (2 < zc c)
    ∗ endR c 11 (0 < zc c ∧ zc c ≤ 2) (zc c = 0) (zc c = 3 ∨ zc c < 0)
    ∗ endR c 12 (1 < zc c ∧ zc c ≤ 2) (zc c = 1) (zc c = 3 ∨ zc c < 1)
    ∗ endR c 13 (2 < zc c ∧ zc c ≤ 2) (zc c = 2) (zc c = 3 ∨ zc c < 2)
    ∗ pos1 c 14
    ∗ pos1 c 15
    ∗ pos1 c 16
    ∗ pos1 c 17
    ∗ pos1 c 18
    ∗ pos1 c 19
    ∗ pos1 c 20
    ∗ pos1 c 21)

theorem zeros_of (c : Dev nD) : iprop(recs m K ∗ ends c) ⊢ iprop(|={Set.univ}=> zeros (F := F) c) := by
  unfold zeros ends
  rw [list_k]
  iintro ⟨#HR, H0, H1, H2, H3, H4, H5, H6, H7, H8, H9, H10, H11, H12, H13, H14, H15, H16, H17, H18, H19, H20, H21⟩
  imod (zero_one m K c 0) $$ [H0] with H0
  · isplitr; · iexact HR
    iexact H0
  imod (zero_one m K c 1) $$ [H1] with H1
  · isplitr; · iexact HR
    iexact H1
  imod (zero_S m K c 2 (zc c ≤ 0) (by decide) (by revert c; decide +kernel)) $$ [H2] with H2
  · isplitr; · iexact HR
    iexact H2
  imod (zero_S m K c 3 (zc c ≤ 1) (by decide) (by revert c; decide +kernel)) $$ [H3] with H3
  · isplitr; · iexact HR
    iexact H3
  imod (zero_S m K c 4 (zc c ≤ 2) (by decide) (by revert c; decide +kernel)) $$ [H4] with H4
  · isplitr; · iexact HR
    iexact H4
  imod (zero_R m K c 5 (1 ≤ zc c ∧ zc c ≤ 0) (zc c = 1) (zc c = 0 ∨ 1 < zc c) (by decide) (by revert c; decide +kernel)) $$ [H5] with H5
  · isplitr; · iexact HR
    iexact H5
  imod (zero_R m K c 6 (1 ≤ zc c ∧ zc c ≤ 1) (zc c = 2) (zc c = 0 ∨ 2 < zc c) (by decide) (by revert c; decide +kernel)) $$ [H6] with H6
  · isplitr; · iexact HR
    iexact H6
  imod (zero_R m K c 7 (1 ≤ zc c ∧ zc c ≤ 2) (zc c = 3) (zc c = 0 ∨ 3 < zc c) (by decide) (by revert c; decide +kernel)) $$ [H7] with H7
  · isplitr; · iexact HR
    iexact H7
  imod (zero_S m K c 8 (0 < zc c) (by decide) (by revert c; decide +kernel)) $$ [H8] with H8
  · isplitr; · iexact HR
    iexact H8
  imod (zero_S m K c 9 (1 < zc c) (by decide) (by revert c; decide +kernel)) $$ [H9] with H9
  · isplitr; · iexact HR
    iexact H9
  imod (zero_S m K c 10 (2 < zc c) (by decide) (by revert c; decide +kernel)) $$ [H10] with H10
  · isplitr; · iexact HR
    iexact H10
  imod (zero_R m K c 11 (0 < zc c ∧ zc c ≤ 2) (zc c = 0) (zc c = 3 ∨ zc c < 0) (by decide) (by revert c; decide +kernel)) $$ [H11] with H11
  · isplitr; · iexact HR
    iexact H11
  imod (zero_R m K c 12 (1 < zc c ∧ zc c ≤ 2) (zc c = 1) (zc c = 3 ∨ zc c < 1) (by decide) (by revert c; decide +kernel)) $$ [H12] with H12
  · isplitr; · iexact HR
    iexact H12
  imod (zero_R m K c 13 (2 < zc c ∧ zc c ≤ 2) (zc c = 2) (zc c = 3 ∨ zc c < 2) (by decide) (by revert c; decide +kernel)) $$ [H13] with H13
  · isplitr; · iexact HR
    iexact H13
  imod (zero_one m K c 14) $$ [H14] with H14
  · isplitr; · iexact HR
    iexact H14
  imod (zero_one m K c 15) $$ [H15] with H15
  · isplitr; · iexact HR
    iexact H15
  imod (zero_one m K c 16) $$ [H16] with H16
  · isplitr; · iexact HR
    iexact H16
  imod (zero_one m K c 17) $$ [H17] with H17
  · isplitr; · iexact HR
    iexact H17
  imod (zero_one m K c 18) $$ [H18] with H18
  · isplitr; · iexact HR
    iexact H18
  imod (zero_one m K c 19) $$ [H19] with H19
  · isplitr; · iexact HR
    iexact H19
  imod (zero_one m K c 20) $$ [H20] with H20
  · isplitr; · iexact HR
    iexact H20
  imod (zero_one m K c 21) $$ [H21] with H21
  · isplitr; · iexact HR
    iexact H21
  imodintro
  iframe

attribute [local irreducible] w8 k0_cond2 k0_cond4 k0_cond6 k0_cond8 k0_cond10 k0_cond12 k0_off1 k0_off2 k0_off3 k0_off4 k0_off5 k0_off6 k0_off7 k0_off8 k0_off9 k0_off10 k0_off11 k0_off12 k0_off13 k0_off14 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18

/-! ## The program -/

/-- The payments device `c` is to make, and its semaphores before any wait. -/
def toks (c : Dev nD) : sProp 𝕄 := bigSep Finset.univ fun s : Fin 28 => tok (F := F) c s
def poss (c : Dev nD) : sProp 𝕄 := bigSep Finset.univ fun k : Fin 22 => pos0 (F := F) c k
/-- What device `c` is to be paid, by others. -/
def crds (c : Dev nD) : sProp 𝕄 :=
  iprop(crd (F := F) c 0 ∗ crd c 1 ∗ crd c 5 ∗ crd c 6 ∗ crd c 7 ∗ crd c 11 ∗ crd c 12 ∗ crd c 13 ∗ crd c 18 ∗ crd c 19 ∗ crd c 20 ∗ crd c 21)
/-- The buffers of the program's own. -/
def scr (c : Dev nD) : sProp 𝕄 :=
  iprop(anyOf (F := F) c mM ∗ anyOf c rM ∗ anyOf c lM ∗ anyOf c xbM ∗ anyOf c ybM ∗ anyOf c dtM ∗ anyOf c dbM)

abbrev wholeBody := cc0_body (F := F) xM (Memref.isWhole_whole _) oM (Memref.isWhole_whole _) mM (Memref.isWhole_whole _) rM (Memref.isWhole_whole _) lM (Memref.isWhole_whole _)
    xbM (Memref.isWhole_whole _) ybM (Memref.isWhole_whole _) dtM (Memref.isWhole_whole _) dbM (Memref.isWhole_whole _)
    cc0_scratch7 cc0_scratch8 cc0_scratch9 cc0_scratch10 cc0_scratch11 cc0_scratch12 cc0_scoped0

/-- A program in two stretches: the second starts from what the first ends with. -/
theorem step_bind (c : Dev nD) {α β : Type} {e : Prog (TpuEff nD τ sig (Elt F) Λ₀ .tc) α} {k : α → Prog (TpuEff nD τ sig (Elt F) Λ₀ .tc) β} {Q : β → sProp 𝕄} :
    WP (F := F) c e (fun a => WP c (k a) Q) ⊢ WP c (e >>= k) Q := by
  unfold WP; rw [wp_bind]

/-- A device's program, from its block of the input to its block of the result. -/
theorem body_spec (c : Dev nD) {Kt : PUnit → sProp 𝕄} :
    iprop(recs m K ∗ levAts L lv ∗ Ow c 0 ∗ toks c ∗ poss c ∗ crds c ∗ own c xM fullShare (xstg m c) ∗ anyOf c oM ∗ scr c
        ∗ ((Ow c 18 ∗ own c xM fullShare (xstg m c) ∗ own c oM fullShare (outAt m c) ∗ zeros c ∗ scr c) -∗ Kt ⟨⟩))
      ⊢ WP c (wholeBody (F := F)) Kt := by
  have hlt := zc_lt c
  unfold wholeBody toks poss crds scr
  rw [cc0_body_eq_skeleton, list_s, list_k]; unfold cc0_body_skel
  iintro ⟨#HR, #Hlev, HO, ⟨T0, T1, T2, T3, T4, T5, T6, T7, T8, T9, T10, T11, T12, T13, T14, T15, T16, T17, T18, T19, T20, T21, T22, T23, T24, T25, T26, T27⟩, ⟨P0, P1, P2, P3, P4, P5, P6, P7, P8, P9, P10, P11, P12, P13, P14, P15, P16, P17, P18, P19, P20, P21⟩, ⟨C0, C1, C5, C6, C7, C11, C12, C13, C18, C19, C20, C21⟩, Hx, Hout, ⟨Hm, Hr, Hl, Hxb, Hyb, Hdt, Hdb⟩, Hk⟩
  ihave Hr := (start_r c) $$ Hr
  icases Hr with ⟨B0, R0, R1, R2, Q0, Q1, Q2⟩
  ihave Hl := (start_l c) $$ Hl
  icases Hl with ⟨B1, L0, L1, L2, N0, N1, N2⟩
  ihave B2 := (start_x c) $$ [Hxb Hdb]
  · isplitl [Hxb]; · iexact Hxb
    iexact Hdb
  ihave B3 := (start_y c) $$ [Hyb Hdt]
  · isplitl [Hyb]; · iexact Hyb
    iexact Hdt
  ihave Hout := (outs_of_any m c) $$ Hout
  ihave P2 := (opt_split2 (zc c ≤ 0) (pos0 c 2)) $$ P2
  icases P2 with ⟨P2, F2⟩
  ihave P3 := (opt_split2 (zc c ≤ 1) (pos0 c 3)) $$ P3
  icases P3 with ⟨P3, F3⟩
  ihave P4 := (opt_split2 (zc c ≤ 2) (pos0 c 4)) $$ P4
  icases P4 with ⟨P4, F4⟩
  ihave P8 := (opt_split2 (0 < zc c) (pos0 c 8)) $$ P8
  icases P8 with ⟨P8, F8⟩
  ihave P9 := (opt_split2 (1 < zc c) (pos0 c 9)) $$ P9
  icases P9 with ⟨P9, F9⟩
  ihave P10 := (opt_split2 (2 < zc c) (pos0 c 10)) $$ P10
  icases P10 with ⟨P10, F10⟩
  ihave P5 := (opt_split3 (1 ≤ zc c ∧ zc c ≤ 0) (zc c = 1) (zc c = 0 ∨ 1 < zc c) (by omega) (by omega) iprop(crd c 5 ∗ pos0 c 5)) $$ [P5 C5]
  · isplitl [C5]; · iexact C5
    iexact P5
  icases P5 with ⟨A5, W5, F5⟩
  ihave P6 := (opt_split3 (1 ≤ zc c ∧ zc c ≤ 1) (zc c = 2) (zc c = 0 ∨ 2 < zc c) (by omega) (by omega) iprop(crd c 6 ∗ pos0 c 6)) $$ [P6 C6]
  · isplitl [C6]; · iexact C6
    iexact P6
  icases P6 with ⟨A6, W6, F6⟩
  ihave P7 := (opt_split3 (1 ≤ zc c ∧ zc c ≤ 2) (zc c = 3) (zc c = 0 ∨ 3 < zc c) (by omega) (by omega) iprop(crd c 7 ∗ pos0 c 7)) $$ [P7 C7]
  · isplitl [C7]; · iexact C7
    iexact P7
  icases P7 with ⟨A7, W7, F7⟩
  ihave P11 := (opt_split3 (0 < zc c ∧ zc c ≤ 2) (zc c = 0) (zc c = 3 ∨ zc c < 0) (by omega) (by omega) iprop(crd c 11 ∗ pos0 c 11)) $$ [P11 C11]
  · isplitl [C11]; · iexact C11
    iexact P11
  icases P11 with ⟨A11, W11, F11⟩
  ihave P12 := (opt_split3 (1 < zc c ∧ zc c ≤ 2) (zc c = 1) (zc c = 3 ∨ zc c < 1) (by omega) (by omega) iprop(crd c 12 ∗ pos0 c 12)) $$ [P12 C12]
  · isplitl [C12]; · iexact C12
    iexact P12
  icases P12 with ⟨A12, W12, F12⟩
  ihave P13 := (opt_split3 (2 < zc c ∧ zc c ≤ 2) (zc c = 2) (zc c = 3 ∨ zc c < 2) (by omega) (by omega) iprop(crd c 13 ∗ pos0 c 13)) $$ [P13 C13]
  · isplitl [C13]; · iexact C13
    iexact P13
  icases P13 with ⟨A13, W13, F13⟩
  iapply step_bind
  iapply (part1_spec m K c)
  isplitr; · iexact HR
  isplitl [HO]; · iexact HO
  isplitl [T0]; · iexact T0
  isplitl [T1]; · iexact T1
  isplitl [B0]; · iexact B0
  isplitl [B1]; · iexact B1
  iintro %v2 %v5 %v8 %v11 %v13 %v16 %v17 %v18 %v19 %hv HO
  obtain ⟨rfl, h19⟩ := hv
  dsimp only
  iapply step_bind
  iapply (part2_spec m K c v2 v5 v11 v13 v16 v17 v18 v19 h19)
  isplitr; · iexact HR
  isplitr; · iexact Hlev
  isplitl [HO]; · iexact HO
  isplitl [T2]; · iexact T2
  isplitl [T3]; · iexact T3
  isplitl [B2]; · iexact B2
  isplitl [B3]; · iexact B3
  isplitl [C0]; · iexact C0
  isplitl [P0]; · iexact P0
  isplitl [Hx]; · iexact Hx
  isplitl [A7]; · iexact A7
  isplitl [R2]; · iexact R2
  isplitl [T20]; · iexact T20
  isplitl [T4]; · iexact T4
  isplitl [A11]; · iexact A11
  isplitl [L0]; · iexact L0
  isplitl [T21]; · iexact T21
  isplitl [T5]; · iexact T5
  iintro ⟨HO, P0, B2, B3, Hx, D0, D1, E1, E2, A7, S2, A11, U0⟩
  dsimp only
  iapply step_bind
  iapply (part3_spec m K c v2 v5 v11 v13 v16)
  isplitr; · iexact HR
  isplitr; · iexact Hlev
  isplitl [HO]; · iexact HO
  isplitl [Hx]; · iexact Hx
  isplitl [A6]; · iexact A6
  isplitl [R1]; · iexact R1
  isplitl [D1]; · iexact D1
  isplitl [T19]; · iexact T19
  isplitl [T6]; · iexact T6
  isplitl [A12]; · iexact A12
  isplitl [L1]; · iexact L1
  isplitl [E1]; · iexact E1
  isplitl [T22]; · iexact T22
  isplitl [T7]; · iexact T7
  isplitl [A5]; · iexact A5
  isplitl [R0]; · iexact R0
  isplitl [D0]; · iexact D0
  isplitl [T18]; · iexact T18
  isplitl [T8]; · iexact T8
  isplitl [A13]; · iexact A13
  isplitl [L2]; · iexact L2
  isplitl [E2]; · iexact E2
  isplitl [T23]; · iexact T23
  isplitl [T9]; · iexact T9
  iintro ⟨HO, Hx, A6, S1, A12, U1, A5, S0, A13, U2⟩
  ihave S0 := (opt_unsep _ _) $$ S0
  icases S0 with ⟨S0, C2⟩
  ihave S1 := (opt_unsep _ _) $$ S1
  icases S1 with ⟨S1, C3⟩
  ihave S2 := (opt_unsep _ _) $$ S2
  icases S2 with ⟨S2, C4⟩
  ihave U0 := (opt_unsep _ _) $$ U0
  icases U0 with ⟨U0, C8⟩
  ihave U1 := (opt_unsep _ _) $$ U1
  icases U1 with ⟨U1, C9⟩
  ihave U2 := (opt_unsep _ _) $$ U2
  icases U2 with ⟨U2, C10⟩
  iapply step_bind
  iapply (part4_spec m K c v2 v5 v11)
  isplitr; · iexact HR
  isplitr; · iexact Hlev
  isplitl [HO]; · iexact HO
  isplitl [Hx]; · iexact Hx
  isplitl [W5]; · iexact W5
  isplitl [W6]; · iexact W6
  isplitl [W7]; · iexact W7
  isplitl [W11]; · iexact W11
  isplitl [W12]; · iexact W12
  isplitl [W13]; · iexact W13
  isplitl [S0]; · iexact S0
  isplitl [Q0]; · iexact Q0
  isplitl [S1]; · iexact S1
  isplitl [Q1]; · iexact Q1
  isplitl [S2]; · iexact S2
  isplitl [Q2]; · iexact Q2
  isplitl [U0]; · iexact U0
  isplitl [N0]; · iexact N0
  isplitl [U1]; · iexact U1
  isplitl [N1]; · iexact N1
  isplitl [U2]; · iexact U2
  isplitl [N2]; · iexact N2
  iintro ⟨HO, Hx, HRS, HLS, W5, W6, W7, W11, W12, W13⟩
  ihave B2 := (show barPay c 2 ⊢ iprop(anyOf (xn c) xbM ∗ anyOf (xn c) dbM) from .rfl) $$ B2
  icases B2 with ⟨Xx, Xd⟩
  ihave B3 := (show barPay c 3 ⊢ iprop(anyOf (yn c) ybM ∗ anyOf (yn c) dtM) from .rfl) $$ B3
  icases B3 with ⟨Yy, Yd⟩
  ihave V2 := (opt_sep (b := zc c ≤ 0) (crd c 2) (pos0 c 2)) $$ [C2 P2]
  · isplitl [C2]; · iexact C2
    iexact P2
  ihave V3 := (opt_sep (b := zc c ≤ 1) (crd c 3) (pos0 c 3)) $$ [C3 P3]
  · isplitl [C3]; · iexact C3
    iexact P3
  ihave V4 := (opt_sep (b := zc c ≤ 2) (crd c 4) (pos0 c 4)) $$ [C4 P4]
  · isplitl [C4]; · iexact C4
    iexact P4
  ihave V8 := (opt_sep (b := 0 < zc c) (crd c 8) (pos0 c 8)) $$ [C8 P8]
  · isplitl [C8]; · iexact C8
    iexact P8
  ihave V9 := (opt_sep (b := 1 < zc c) (crd c 9) (pos0 c 9)) $$ [C9 P9]
  · isplitl [C9]; · iexact C9
    iexact P9
  ihave V10 := (opt_sep (b := 2 < zc c) (crd c 10) (pos0 c 10)) $$ [C10 P10]
  · isplitl [C10]; · iexact C10
    iexact P10
  dsimp only
  iapply step_bind
  iapply (part5_spec m K c v2 v5 v11 v17 v18)
  isplitr; · iexact HR
  isplitr; · iexact Hlev
  isplitl [HO]; · iexact HO
  isplitl [HLS]; · iexact HLS
  isplitl [Hm]; · iexact Hm
  isplitl [Hout]; · iexact Hout
  isplitl [Xx]; · iexact Xx
  isplitl [T24]; · iexact T24
  isplitl [T10]; · iexact T10
  isplitl [Yy]; · iexact Yy
  isplitl [T25]; · iexact T25
  isplitl [T11]; · iexact T11
  isplitl [V2]; · iexact V2
  iintro ⟨HO, HLS, Hout, C14, C15, V2⟩
  iapply step_bind
  iapply (part6_spec m K c v2 v5 v18)
  isplitr; · iexact HR
  isplitr; · iexact Hlev
  isplitl [HO]; · iexact HO
  isplitl [V3]; · iexact V3
  isplitl [V4]; · iexact V4
  isplitl [V8]; · iexact V8
  isplitl [V9]; · iexact V9
  isplitl [V10]; · iexact V10
  isplitl [C18]; · iexact C18
  isplitl [P18]; · iexact P18
  iintro ⟨HO, V3, V4, V8, V9, V10, P18, Hxb⟩
  iapply step_bind
  iapply (part7_spec m K c v2 v5 (w8 c) v17)
  isplitr; · iexact HR
  isplitr; · iexact Hlev
  isplitl [HO]; · iexact HO
  isplitl [Hxb]; · iexact Hxb
  isplitl [Yd]; · iexact Yd
  isplitl [T26]; · iexact T26
  isplitl [T12]; · iexact T12
  isplitl [C19]; · iexact C19
  isplitl [P19]; · iexact P19
  isplitl [Xd]; · iexact Xd
  isplitl [T27]; · iexact T27
  isplitl [T13]; · iexact T13
  isplitl [C20]; · iexact C20
  isplitl [P20]; · iexact P20
  iintro %w7 ⟨HO, XR, XL, C16, YR, YL, C17, P19, P20, Hdt⟩
  iapply step_bind
  iapply (part8_spec m K c v2 v5 (w8 c) w7)
  isplitr; · iexact HR
  isplitr; · iexact Hlev
  isplitl [HO]; · iexact HO
  isplitl [C21]; · iexact C21
  isplitl [P21]; · iexact P21
  isplitl [XR]; · iexact XR
  isplitl [YR]; · iexact YR
  isplitl [Hdt]; · iexact Hdt
  isplitl [Hout]; · iexact Hout
  iintro %w9 ⟨HO, P21, XR, YR, Hdt, Hdb, Hout⟩
  iapply step_bind
  iapply (part9_spec m K c v2 v5 v16 w9)
  isplitr; · iexact HR
  isplitr; · iexact Hlev
  isplitl [HO]; · iexact HO
  isplitl [Hdb]; · iexact Hdb
  isplitl [Hout]; · iexact Hout
  isplitl [C14]; · iexact C14
  isplitl [P14]; · iexact P14
  isplitl [C15]; · iexact C15
  isplitl [P15]; · iexact P15
  isplitl [C16]; · iexact C16
  isplitl [P16]; · iexact P16
  isplitl [C17]; · iexact C17
  isplitl [P17]; · iexact P17
  isplitl [XR]; · iexact XR
  isplitl [XL]; · iexact XL
  isplitl [YR]; · iexact YR
  isplitl [YL]; · iexact YL
  isplitl [T14]; · iexact T14
  iintro %w10 ⟨HO, Hdb, Hout, P14, P15, P16, P17, Hm, Hxb, Hyb⟩
  simp only [semSignalWord, semWaitWord, Prog.lift, Prog.bind_op, Prog.bind_ret, Prog.pure_eq_ret, wp_deviceId]
  iapply (step_signal m K c 15 15 16 rfl rfl (dev16_eq c) (P := iprop(emp)) rfl rfl (by clear h19 hlt; revert c; decide +kernel) rfl) $$ [HO T15]
  · iframe; iassumption
  iintro HO
  iapply (step_signal m K c 16 16 17 rfl rfl (dev17_eq c) (P := iprop(emp)) rfl rfl (by clear h19 hlt; revert c; decide +kernel) rfl) $$ [HO T16]
  · iframe; iassumption
  iintro HO
  iapply (step_signal m K c 17 17 18 rfl rfl (dev18_eq c) (P := iprop(emp)) rfl rfl (by clear h19 hlt; revert c; decide +kernel) rfl) $$ [HO T17]
  · iframe; iassumption
  iintro HO
  iapply (step_barrier m K c 1 18 rfl (by decide) (by clear h19 hlt; revert c; decide +kernel)) $$ [HO C1 P1]
  · iframe; isplitr <;> iassumption
  iintro ⟨HO, P1, -⟩
  ihave V2 := (opt_unsep _ _) $$ V2
  icases V2 with ⟨P2, V2⟩
  ihave V3 := (opt_unsep _ _) $$ V3
  icases V3 with ⟨P3, V3⟩
  ihave V4 := (opt_unsep _ _) $$ V4
  icases V4 with ⟨P4, V4⟩
  ihave V8 := (opt_unsep _ _) $$ V8
  icases V8 with ⟨P8, V8⟩
  ihave V9 := (opt_unsep _ _) $$ V9
  icases V9 with ⟨P9, V9⟩
  ihave V10 := (opt_unsep _ _) $$ V10
  icases V10 with ⟨P10, V10⟩
  ihave Hr := (back_r m c) $$ [HRS V2 V3 V4]
  · iframe
  ihave Hl := (back_l m c) $$ [HLS V8 V9 V10]
  · iframe
  ihave Hz : iprop(recs m K ∗ ends c) $$ [P0 P1 P2 F2 P3 F3 P4 F4 A5 W5 F5 A6 W6 F6 A7 W7 F7 P8 F8 P9 F9 P10 F10 A11 W11 F11 A12 W12 F12 A13 W13 F13 P14 P15 P16 P17 P18 P19 P20 P21]
  · isplitr; · iexact HR
    unfold ends
    isplitl [P0]; · iexact P0
    isplitl [P1]; · iexact P1
    isplitl [P2 F2]
    · unfold endS
      isplitl [P2]; · iexact P2
      iexact F2
    isplitl [P3 F3]
    · unfold endS
      isplitl [P3]; · iexact P3
      iexact F3
    isplitl [P4 F4]
    · unfold endS
      isplitl [P4]; · iexact P4
      iexact F4
    isplitl [A5 W5 F5]
    · unfold endR
      isplitl [A5]; · iexact A5
      isplitl [W5]; · iexact W5
      iexact F5
    isplitl [A6 W6 F6]
    · unfold endR
      isplitl [A6]; · iexact A6
      isplitl [W6]; · iexact W6
      iexact F6
    isplitl [A7 W7 F7]
    · unfold endR
      isplitl [A7]; · iexact A7
      isplitl [W7]; · iexact W7
      iexact F7
    isplitl [P8 F8]
    · unfold endS
      isplitl [P8]; · iexact P8
      iexact F8
    isplitl [P9 F9]
    · unfold endS
      isplitl [P9]; · iexact P9
      iexact F9
    isplitl [P10 F10]
    · unfold endS
      isplitl [P10]; · iexact P10
      iexact F10
    isplitl [A11 W11 F11]
    · unfold endR
      isplitl [A11]; · iexact A11
      isplitl [W11]; · iexact W11
      iexact F11
    isplitl [A12 W12 F12]
    · unfold endR
      isplitl [A12]; · iexact A12
      isplitl [W12]; · iexact W12
      iexact F12
    isplitl [A13 W13 F13]
    · unfold endR
      isplitl [A13]; · iexact A13
      isplitl [W13]; · iexact W13
      iexact F13
    isplitl [P14]; · iexact P14
    isplitl [P15]; · iexact P15
    isplitl [P16]; · iexact P16
    isplitl [P17]; · iexact P17
    isplitl [P18]; · iexact P18
    isplitl [P19]; · iexact P19
    isplitl [P20]; · iexact P20
    iexact P21
  imod (zeros_of m K c) $$ Hz with Hz
  iapply step_ret
  iapply Hk
  isplitl [HO]; · iexact HO
  isplitl [Hx]; · iexact Hx
  isplitl [Hout]; · iexact Hout
  isplitl [Hz]; · iexact Hz
  isplitl [Hm]; · iexact Hm
  isplitl [Hr]; · iexact Hr
  isplitl [Hl]; · iexact Hl
  isplitl [Hxb]; · iexact Hxb
  isplitl [Hyb]; · iexact Hyb
  isplitl [Hdt]; · iapply (own_any c dtM) $$ Hdt
  iexact Hdb

end Cert.KernelIdeal.ReduceScatter
-- ==== Proof.KernelIdeal.Launch.lean ====
/-
# The launch

The run of the program on all sixteen devices: what each device holds at the start and at the end, how the payments are
dealt out, that the waits are fulfilled, and the final state of memory and semaphores.
-/
module

public import proofs.«01_k».proof.Proof.KernelIdeal.Body
public import Idealize.ShloMosaic.Lib.Pipeline.CollectiveSegs

@[expose] public section

set_option backward.proofsInPublic true

noncomputable section

namespace Cert.KernelIdeal.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: memory as given, every semaphore at zero. -/
def s₀ : MemSt nD τ sig (Elt F) := ⟨m, fun _ => 0, ρ⟩

/-! ## The one point of the grid -/

def t₀ : Fin cfg0.N := t0_0
theorem fin_N (t : Fin cfg0.N) : t = t₀ := fin_N0 t

/-- What a device holds at the start: the records of all cells, the payments it is to make, its waits and what they are paid with. -/
def start (c : Dev nD) : sProp 𝕄 :=
  iprop((∃ K, recs m K ∗ toks (F := F) c ∗ poss c) ∗ crds c ∗ levAts L lv)

/-- Before the body: that, and its own buffers. After it: its own buffers, and its semaphores back at zero. -/
def Φ₀ (c : Dev nD) : sProp 𝕄 := iprop(start m c ∗ scr c)
def Φ₁ (c : Dev nD) : sProp 𝕄 := iprop(zeros (F := F) c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O c 0
    | ⟨_ + 1, _⟩ => 0

/-! ## The body at that point -/

theorem before_x (c : Dev nD) (d) : (dats m ρ 0 c).before (0 : Fin 2) t₀ d = xstg m c := by
  unfold Dat.before; rw [if_pos (fetch0_0 t₀)]; rfl

theorem owes_in (c : Dev nD) : (dats m ρ 0 c).owesAt () t₀.castSucc ⊢ Ow c 0 := by
  unfold Dat.owesAt Pipeline.owesWithin Ow
  iintro ⟨%W, %hW, HO⟩
  iexists W; iexact HO
theorem owes_out (c : Dev nD) : Ow c 18 ⊢ (dats m ρ 0 c).owesAt () t₀.succ := by
  unfold Dat.owesAt Pipeline.owesWithin Ow
  rw [O_end]
  iintro ⟨%W, HO⟩
  iexists W
  isplitr; · ipureintro; exact fun _ _ => Or.inl trivial
  iexact HO

def bodyPre (c : Dev nD) : sProp 𝕄 :=
  iprop(Φ₀ m c ∗ (dats m ρ 0 c).owesAt () t₀.castSucc
    ∗ (∃ d, own c xM fullShare ((dats m ρ 0 c).before (0 : Fin 2) t₀ d))
    ∗ (∃ d, own c oM fullShare ((dats m ρ 0 c).before (1 : Fin 2) t₀ d)))
def bodyPost (c : Dev nD) : sProp 𝕄 :=
  iprop(Φ₁ (F := F) c ∗ (dats m ρ 0 c).owesAt () t₀.succ ∗ own c xM fullShare (xstg m c) ∗ own c oM fullShare (outAt m c))

theorem body_run (c : Dev nD) : bodyPre m ρ c ⊢ WP c (wholeBody (F := F)) (fun _ => bodyPost m ρ c) := by
  unfold bodyPre Φ₀ start
  iintro ⟨⟨⟨⟨%K, #HR, Ht, Hp⟩, Hc, #Hlev⟩, Hscr⟩, Ho, ⟨%d0, Hx⟩, ⟨%d1, Hout⟩⟩
  rw [before_x]
  ihave HO := (owes_in m ρ c) $$ Ho
  ihave Ha := (own_any c oM _) $$ Hout
  iapply (body_spec m K c)
  isplitr; · iexact HR
  isplitr; · iexact Hlev
  isplitl [HO]; · iexact HO
  isplitl [Ht]; · iexact Ht
  isplitl [Hp]; · iexact Hp
  isplitl [Hc]; · iexact Hc
  isplitl [Hx]; · iexact Hx
  isplitl [Ha]; · iexact Ha
  isplitl [Hscr]; · iexact Hscr
  iintro ⟨HO, Hx, Hout, Hz, Hscr⟩
  unfold bodyPost Φ₁
  isplitl [Hz Hscr]
  · isplitl [Hz] <;> iassumption
  isplitl [HO]; · iapply (owes_out m ρ c) $$ HO
  isplitl [Hx] <;> iassumption

set_option maxRecDepth 4000 in
theorem body_obligation (c : Dev nD) : BodyObligation (dats (F := F) m ρ 0 c) (defs₀ (F := F)) 𝒱₀ () Set.univ := fun t => by
  rw [fin_N t, bigSep_W0, bigSep_W0]
  exact body_run m ρ c

/-! ## Dealing out the payments -/

/-- The semaphores a device's program allots itself; the entry barrier's is not among them. -/
abbrev osem : Fin 21 → SemLoc sig := fun j => csem j.succ

theorem ownSemFacts : Pipeline.OwnSemFacts cfg0.spec osem := by decide +kernel
theorem share_eq (c : Dev nD) (w : Fin cfg0.W) : (dats m ρ 0 c).share w = fullShare := by unfold Dat.share; split <;> rfl

def allCells : Finset (GSem nD τ sig) := Finset.univ.map ⟨kcell, kcell_injective⟩

/-- Payment `s`, named by the device that receives it. -/
def payment (cs : Dev nD × Fin 28) : GSem nD τ sig × ℕ × Fin 4 := (kcell (cs.1, kk cs.2), 0, dd cs.2)
theorem kk_dd : ∀ s s' : Fin 28, kk s = kk s' → dd s = dd s' → s = s' := by decide +kernel
theorem payment_injective : Function.Injective payment := by
  rintro ⟨c, s⟩ ⟨c', s'⟩ h
  have h1 : (c, kk s) = (c', kk s') := kcell_injective (congrArg Prod.fst h)
  have h2 : dd s = dd s' := congrArg (fun x => x.2.2) h
  exact Prod.ext (congrArg (fun x => x.1) h1) (kk_dd s s' (congrArg (fun x => x.2) h1) h2)
def allToks : Finset (GSem nD τ sig × ℕ × Fin 4) := Finset.univ.map ⟨payment, payment_injective⟩

def u₀ : UU := (initOf (Pipeline.cells cfgs cellOf_inj) (Pipeline.launchToks cfgs cellOf_inj), initOf allCells allToks)

/-- The payments to the cells of device `c`. -/
def dues (c : Dev nD) : sProp 𝕄 := bigSep Finset.univ fun s : Fin 28 => dutyTok ER (kcell (c, kk s)) 0 (dd s)

/-- What the launch deals to a device, and what it has of that once all devices have shared theirs. -/
def G (c : Dev nD) : sProp 𝕄 :=
  iprop((bigSep Finset.univ fun k : Fin 22 => roundState ER (Rd m) (kcell (c, k)) 0)
    ∗ (bigSep Finset.univ fun k : Fin 22 => reached ER (kcell (c, k)) 0) ∗ poss c ∗ dues c)
def G' (c : Dev nD) : sProp 𝕄 := iprop(∃ K, recs m K ∗ toks (F := F) c ∗ poss c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 22 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => dues c := by
    unfold allToks; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  isplitl [Hst]; · iexact Hst
  isplitl [Hr]; · iexact Hr
  isplitl [Hat] <;> iassumption

theorem unscopedSems0_eq (c : Dev nD) : (unscopedSems0 c : sProp 𝕄) = zv c 0 := by
  unfold unscopedSems0; rw [bigSep_eq_bigSepL_of_eq [SemLoc.reg (0 : Fin 2)] (by decide) (by decide)]; rfl
theorem ownSems0_eq (c : Dev nD) : (Pipeline.ownSems0 (Ix := Unit) (Name := ℕ) (U := UU) (Lvl := ℕ) (Val := Elt F) (τ := τ) osem c : sProp 𝕄)
    = bigSepL [0, 1, 2, 3, 4, 5, 6, 7, 8, 9, 10, 11, 12, 13, 14, 15, 16, 17, 18, 19, 20] fun j : Fin 21 => zv c j.succ :=
  Pipeline.ownSems0_eq_of_list c osem _ (by decide) (by decide)

/-- All semaphores of a device at zero: its own, and the entry barrier's. -/
theorem zeros_eq (c : Dev nD) :
    zeros c = iprop(unscopedSems0 c ∗ Pipeline.ownSems0 (Ix := Unit) (Name := ℕ) (U := UU) (Lvl := ℕ) (Val := Elt F) (τ := τ) osem c) := by
  rw [ownSems0_eq, unscopedSems0_eq]; unfold zeros; rw [list_k]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 22 => iprop(∃ κ : ℕ, cellInv ER (Rd m) κ (kcell (c, k))))
          ∗ (bigSep Finset.univ fun k : Fin 22 => reached ER (kcell (c, k)) 0) ∗ poss c ∗ dues c) := by
  unfold G
  iintro ⟨Hos, Hus, Hst, Hr, Hat, Htok⟩
  ihave Hv := (Entails.of_eq (zeros_eq c).symm) $$ [Hos Hus]
  · isplitl [Hus] <;> iassumption
  imod (show iprop(zeros c ∗ bigSep Finset.univ fun k : Fin 22 => roundState ER (Rd m) (kcell (c, k)) 0)
      ⊢ (|={Set.univ}=> bigSep Finset.univ fun k : Fin 22 => iprop(∃ κ : ℕ, cellInv ER (Rd m) κ (kcell (c, k))) : sProp 𝕄) from by
        unfold zeros
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- Each payment goes from the device that receives it to the device that makes it. -/
theorem dues_toks : (bigSep Finset.univ fun c : Dev nD => (dues c : sProp 𝕄)) ⊢ bigSep Finset.univ fun c : Dev nD => toks c := by
  unfold dues toks
  rw [bigSep_univ_comm, bigSep_univ_comm (fun (c : Dev nD) (s : Fin 28) => tok (F := F) c s)]
  refine bigSep_mono fun s _ => ?_
  rw [bigSep_univ_equiv (tg s) (fun c : Dev nD => (dutyTok ER (kcell (c, kk s)) 0 (dd s) : sProp 𝕄))]
  exact Entails.refl _

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 22 => iprop(∃ κ : ℕ, cellInv ER (Rd m) κ (kcell (c, k))))
          ∗ (bigSep Finset.univ fun k : Fin 22 => reached ER (kcell (c, k)) 0) ∗ poss c ∗ dues c) : sProp 𝕄)
      ⊢ bigSep Finset.univ (G' m) := by
  rw [bigSep_sep', bigSep_sep', bigSep_sep', ← bigSep_univ_prod (fun ck : Dev nD × Fin 22 => iprop(∃ κ : ℕ, cellInv ER (Rd m) κ (kcell ck))),
    ← bigSep_univ_prod (fun ck : Dev nD × Fin 22 => (reached ER (kcell ck) 0 : sProp 𝕄))]
  iintro ⟨HI, #HR, Hat, Htok⟩
  ihave HK := (BI.bigSep_exists_pi Finset.univ (fun (ck : Dev nD × Fin 22) (κ : ℕ) => (cellInv ER (Rd m) κ (kcell ck) : sProp 𝕄))) $$ HI
  icases HK with ⟨%K, #HI⟩
  ihave Htk := (dues_toks (F := F)) $$ Htok
  iapply (bigSep_with (R := recs m K) (Φ := fun c : Dev nD => iprop(toks (F := F) c ∗ poss c)) fun c _ => by
    unfold G'
    iintro ⟨#H, Ht, Hp⟩
    iexists K
    isplitr; · iexact H
    isplitl [Ht] <;> iassumption)
  isplitr
  · unfold recs; rw [bigSep_sep']
    isplitr; · iexact HI
    iexact HR
  · rw [bigSep_sep']
    isplitl [Htk]; · iexact Htk
    iexact Hat

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the waits are paid with -/

/-- What device `d` owes semaphore `k` of device `c`. -/
theorem owed_at (d c : Dev nD) (k : Fin 22) :
    O d 0 (kcell (c, k)) () = ∑ s : Fin 28, if d = (tg s).symm c then (if kk s = k ∧ s.val < 18 ∧ used c k = true then am k else 0) else 0 := by
  unfold O
  rw [Finset.sum_apply, Finsupp.finset_sum_apply]
  refine Finset.sum_congr rfl fun s _ => ?_
  rw [if_pos (Nat.zero_le _)]
  unfold ow ok
  by_cases hd : d = (tg s).symm c
  · subst hd
    rw [if_pos rfl, Equiv.apply_symm_apply]
    by_cases hk : kk s = k
    · subst hk
      by_cases h : s.val < 18 ∧ used c (kk s) = true
      · rw [if_pos (by rw [h.2, decide_eq_true h.1]; rfl), if_pos ⟨rfl, h⟩, tallyAt_apply, if_pos ⟨rfl, rfl⟩]
      · rw [if_neg (by rw [Bool.and_eq_true, decide_eq_true_eq]; exact h), if_neg (fun h' => h h'.2)]; rfl
    · rw [if_neg (show ¬ (kk s = k ∧ s.val < 18 ∧ used c k = true) from fun h' => hk h'.1)]
      split_ifs
      · rw [tallyAt_apply, if_neg (fun h' => hk (congrArg (fun x => x.2) (kcell_injective h'.1)).symm)]
      · rfl
  · rw [if_neg hd]
    split_ifs
    · rw [tallyAt_apply, if_neg (fun h' => hd (by
        have e : c = tg s d := congrArg (fun x => x.1) (kcell_injective h'.1)
        rw [e, Equiv.symm_apply_apply]))]
    · rfl

/-- The number of payments others make to semaphore `k`. -/
def cnt (k : Fin 22) : ℕ := ∑ s : Fin 28, if kk s = k ∧ s.val < 18 then 1 else 0

theorem owed_all (c : Dev nD) (k : Fin 22) : ∑ d : Dev nD, O d 0 (kcell (c, k)) () = cnt k * (if used c k = true then am k else 0) := by
  rw [Finset.sum_congr rfl fun d _ => owed_at d c k, Finset.sum_comm]
  unfold cnt
  rw [Finset.sum_mul]
  refine Finset.sum_congr rfl fun s _ => ?_
  rw [Finset.sum_ite_eq' Finset.univ ((tg s).symm c) fun _ => _, if_pos (Finset.mem_univ _)]
  by_cases h : kk s = k ∧ s.val < 18
  · rw [if_pos h, one_mul]
    by_cases hu : used c k = true
    · rw [if_pos ⟨h.1, h.2, hu⟩, if_pos hu]
    · rw [if_neg (fun h' => hu h'.2.2), if_neg hu]
  · rw [if_neg h, zero_mul, if_neg (fun h' => h ⟨h'.1, h'.2.1⟩)]

theorem cnt_bar : ∀ k : Fin 22, k.val < 2 → cnt k = 4 := by decide +kernel
theorem used_bar (c : Dev nD) (k : Fin 22) (h : k.val < 2) : used c k = true := by unfold used; rw [if_pos h]

/-- What is owed to a semaphore by others is all it is to be paid. -/
theorem owed_tot (c : Dev nD) (k : Fin 22) (h : k.val < 2 ∨ cnt k = 1) : ∑ d : Dev nD, O d 0 (kcell (c, k)) () = tot c k := by
  rw [owed_all]
  unfold tot
  by_cases h2 : k.val < 2
  · rw [if_pos h2, cnt_bar k h2, if_pos (used_bar c k h2)]
    unfold am; rw [if_pos (by omega)]
  · rw [if_neg h2, h.resolve_left h2, one_mul]

abbrev credAt (c : Dev nD) (sm : SemLoc sig) : sProp 𝕄 :=
  cred (tallyOn ((c : Thread nD τ), sm) (launchCredit (Pipeline.owing fun c => O c 0) 0 ((c : Thread nD τ), sm)))

theorem credAt_eq (c : Dev nD) (k : Fin 22) (h : k.val < 2 ∨ cnt k = 1) : credAt (F := F) c (csem k) = crd c k := by
  unfold credAt crd
  have e : tallyOn (kcell (c, k)) (launchCredit (Pipeline.owing fun c => O c 0) 0 (kcell (c, k))) = (tallyAt (kcell (c, k)) () (tot c k) : CellTallies nD τ sig Unit) := by
    unfold tallyAt; refine congrArg _ (Finsupp.ext fun u => ?_); cases u
    rw [Pipeline.launchCredit_owing, Finsupp.single_eq_same, owed_tot c k h]
  exact congrArg _ e

theorem creds (c : Dev nD) : (Pipeline.launchCred (fun c => O c 0) c : sProp 𝕄) ⊢ crds c := by
  have h : (Pipeline.launchCred (fun c => O c 0) c : sProp 𝕄) ⊢ bigSep Finset.univ fun k : Fin 22 => credAt c (csem k) := by
    unfold Pipeline.launchCred
    refine (bigSep_subset (Finset.subset_univ (Finset.univ.map ⟨csem, csem_injective⟩))).trans ?_
    rw [bigSep_map]; exact Entails.refl _
  refine h.trans ?_
  rw [list_k]
  unfold crds
  rw [credAt_eq c 0 (by decide), credAt_eq c 1 (by decide), credAt_eq c 5 (by decide), credAt_eq c 6 (by decide), credAt_eq c 7 (by decide),
    credAt_eq c 11 (by decide), credAt_eq c 12 (by decide), credAt_eq c 13 (by decide), credAt_eq c 18 (by decide), credAt_eq c 19 (by decide),
    credAt_eq c 20 (by decide), credAt_eq c 21 (by decide)]
  iintro ⟨H0, H1, -, -, -, H5, H6, H7, -, -, -, H11, H12, H13, -, -, -, -, H18, H19, H20, H21⟩
  iframe

/-! ## The start and the end of a device -/

theorem anyOf_whole (c : Dev nD) {s : Shape} (M : Memref sig .tc .vmem s .f32) (h : M.view.set = Finset.univ) :
    anyOf (F := F) c M = iprop(∃ f, M.view.loc (c : Thread nD τ) ↦{fullShare} f) := by
  have e := anyOf_pts (F := F) c M
  rw [h] at e
  exact Entails.antisymm e.1 e.2

theorem scr_eq (c : Dev nD) : (Pipeline.scopedRest cfg0.spec c : sProp 𝕄) = scr c := by
  rw [scopedRest0_eq]
  unfold scr
  rw [anyOf_whole c mM (View.set_whole _), anyOf_whole c rM (View.set_whole _), anyOf_whole c lM (View.set_whole _), anyOf_whole c xbM (View.set_whole _),
    anyOf_whole c ybM (View.set_whole _), anyOf_whole c dtM (View.set_whole _), anyOf_whole c dbM (View.set_whole _)]

theorem start_intro (c : Dev nD) :
    iprop(Pipeline.unscopedRestP Pipeline.Prefetch.none cfg0.spec c (fun b => m ((c : Thread nD τ).loc b)) ∗ levAts L lv
        ∗ Pipeline.launchCred (fun c => O c 0) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq]
  unfold Φ₁
  rw [zeros_eq]
  iintro ⟨⟨H0, H1⟩, Hr⟩
  isplitl [H0]; · iexact H0
  isplitl [H1] <;> iassumption

theorem lv_stage (c : Dev nD) : ∀ q : Fin 22, q.val < 2 → lv ((c : Thread nD τ), SemLoc.dma q) () = 0 := fun q h => by
  unfold lv; exact if_neg (csem_reg _ h q)
theorem lvK_due (c : Dev nD) : ∀ s : Fin 28, ok s c = true → 0 < lvK (tg s c) (kk s) := by revert c; decide +kernel

theorem mayWait_stage (c : Dev nD) (q : Fin 22) (hq : q.val < 2) (W : CellTallies nD τ sig Unit) (hW : W = O c 0 ∨ W = 0) :
    (levAts L lv : sProp 𝕄) ⊢ MayWait (c : Thread nD τ) (.dma q) () W := by
  rcases hW with rfl | rfl
  · exact mayWait_of c _ 0 fun s _ hs => by rw [lv_stage c q hq]; exact lvK_due c s hs
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
/-- From any memory with all semaphores at zero, every run of the program on the sixteen devices ends; it ends with the
    two arrays of every device as written back, and with all semaphores at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => O c 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array `x` is left as it was. -/
theorem final_x (c : Dev nD) : finalA m ρ c (0 : Fin 2) = m ((c : Thread nD τ).loc main_arg0) :=
  (dats (F := F) m ρ 0 c).arrAt_in (0 : Fin 2) rfl _

/-- The result array holds what the body left in the staging buffer. -/
theorem final_out (c : Dev nD) : finalA m ρ c (1 : Fin 2) = outAt m c := by
  have ho : (win0_1.blk (0 : Fin 1)).view.read (Elt F) (finalA m ρ c (1 : Fin 2)) = outAt m c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  rw [← ho]
  exact (Memref.read_access_unit_zero (Elt F) main_v1 (funext fun a => by fin_cases a <;> decide) (fun a => by fin_cases a <;> decide) _).symm

end Cert.KernelIdeal.ReduceScatter
-- ==== Proof.KernelIdeal.Value.lean ====
/-
# The value, in exact arithmetic

At exact arithmetic the partial sums along `z` add up, whatever their order, to the sum over the four devices of a line,
and the result on a device is its column block of the sum over `z`.
-/
module

public import Idealize.ShloMosaic.PureOps.Ideal.Laws
public import Idealize.ShloMosaic.Lib.ValueLayout
public import Idealize.ShloMosaic.Lib.Pointwise.Reduce
public import Idealize.ShloMosaic.Lib.Pointwise.Reshape
public import Idealize.ShloMosaic.Lib.IdealHost
public import Idealize.ShloMosaic.Lib.Layout
public import proofs.«01_k».proof.Proof.KernelIdeal.Contents

@[expose] public section

set_option backward.proofsInPublic true

noncomputable section

namespace Cert.KernelIdeal.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## Devices of a line -/

/-- The device of line `a` (the lines run along `z`) at `z`. -/
def ln (a z : Fin 4) : Dev nD := ⟨4 * a.val + z.val, by have := a.isLt; have := z.isLt; change _ < 16; omega⟩

theorem zc_ln (a z : Fin 4) : zc (ln a z) = z.val := by revert a z; decide +kernel
theorem zk_ln (a z : Fin 4) : zk (ln a z) = z := by revert a z; decide +kernel
theorem zl_ln1 (a : Fin 4) : zl (ln a 1) = ln a 0 := by revert a; decide +kernel
theorem zl_ln2 (a : Fin 4) : zl (ln a 2) = ln a 1 := by revert a; decide +kernel
theorem zl_ln3 (a : Fin 4) : zl (ln a 3) = ln a 2 := by revert a; decide +kernel
theorem zr_ln0 (a : Fin 4) : zr (ln a 0) = ln a 1 := by revert a; decide +kernel
theorem zr_ln1 (a : Fin 4) : zr (ln a 1) = ln a 2 := by revert a; decide +kernel
theorem zr_ln2 (a : Fin 4) : zr (ln a 2) = ln a 3 := by revert a; decide +kernel
theorem fr_ln (a z : Fin 4) : 0 < z.val → (fr (ln a z)).succ = z := by revert a z; decide +kernel
theorem fl_ln (a z : Fin 4) : z.val < 3 → (fl (ln a z)).castSucc = z := by revert a z; decide +kernel

/-! ## The partial sums -/

/-- Device `c`'s quarter of the rows in column block `k`, at a row and a column of the block. -/
def xv (c : Dev nD) (k : Fin 4) (i : S256x512.Idx) : EReal := shapeCast S256x512 (xblk m c k) shapeCasts_S1x256x512_S256x512 i

theorem cast_cast (v : FVec Ideal S256x512 .f32) :
    shapeCast S256x512 (shapeCast S1x256x512 v shapeCasts_S256x512_S1x256x512) shapeCasts_S1x256x512_S256x512 = v := by
  rw [shapeCast_comp, shapeCast_id]

theorem zero_at (i : S256x512.Idx) : (broadcast S256x512 (Scalar.ofBits (F := Ideal) .f32 0x00000000#32) : FVec Ideal S256x512 .f32) i = (0 : EReal) := by
  show (Scalar.ofBits (F := Ideal) .f32 0x00000000#32 : EReal) = 0
  simp

/-- A choice between two arrays, read at an index. -/
theorem select_at {b : BitVec 1} {p : Prop} [Decidable p] (h : b = 1 ↔ p) (x y : FVec Ideal S256x512 .f32) (i : S256x512.Idx) :
    (Scalar.select b x y : FVec Ideal S256x512 .f32) i = if p then x i else y i := by
  unfold Scalar.select
  by_cases hp : p
  · rw [if_pos (h.2 hp), if_pos hp]
  · rw [if_neg (fun hb => hp (h.1 hb)), if_neg hp]

theorem addR_at (c : Dev nD) (k : Fin 4) (v : FVec Ideal S256x512 .f32) (i : S256x512.Idx) :
    addR c (xblk m c k) v i = xv m c k i + (if zc c = 0 then (0 : EReal) else v i) := by
  unfold addR k0_pay1
  dsimp only
  rw [cast_cast, cast_cast]
  show xv m c k i + (Scalar.select _ _ _ : FVec Ideal S256x512 .f32) i = _
  rw [select_at (w8_eq0 c), zero_at]

theorem addL_at (c : Dev nD) (k : Fin 4) (v : FVec Ideal S256x512 .f32) (i : S256x512.Idx) :
    addL c (xblk m c k) v i = xv m c k i + (if zc c = 3 then (0 : EReal) else v i) := by
  unfold addL k0_pay2
  dsimp only
  rw [cast_cast, cast_cast]
  show xv m c k i + (Scalar.select _ _ _ : FVec Ideal S256x512 .f32) i = _
  rw [select_at (w8_eq3 c), zero_at]

/-- The sums running up a line, -/
theorem rsum_0 (a : Fin 4) (j : Fin 3) (i) : rsum m (ln a 0) j i = xv m (ln a 0) j.succ i := by
  rw [← rsum_first m (ln a 0) (zc_ln a 0) j zero, addR_at, if_pos (show zc (ln a 0) = 0 from zc_ln a 0), add_zero]
theorem rsum_up (c d : Dev nD) (h : 1 ≤ zc c) (hd : zl c = d) (j : Fin 3) (i) : rsum m c j i = xv m c j.succ i + rsum m d j i := by
  rw [← rsum_step m c h j, addR_at, if_neg (by omega), hd]
/-- and down it. -/
theorem lsum_3 (a : Fin 4) (j : Fin 3) (i) : lsum m (ln a 3) j i = xv m (ln a 3) j.castSucc i := by
  rw [← lsum_first m (ln a 3) (zc_ln a 3) j zero, addL_at, if_pos (show zc (ln a 3) = 3 from zc_ln a 3), add_zero]
theorem lsum_down (c d : Dev nD) (h : zc c ≤ 2) (hd : zr c = d) (j : Fin 3) (i) : lsum m c j i = xv m c j.castSucc i + lsum m d j i := by
  rw [← lsum_step m c h j, addL_at, if_neg (by omega), hd]

/-- A finished quarter: the device's own block and the two sums that came in. -/
theorem mine_at (c : Dev nD) (i : S256x512.Idx) :
    mine m c i = (xv m c (zk c) i + (if 0 < zc c then rsum m (zl c) (fr c) i else 0)) + (if zc c < 3 then lsum m (zr c) (fl c) i else (0 : EReal)) := by
  unfold mine k0_pay8 k0_pay7
  dsimp only
  rw [cast_cast, cast_cast]
  show (xv m c (zk c) i + (Scalar.select _ _ _ : FVec Ideal S256x512 .f32) i) + (Scalar.select _ _ _ : FVec Ideal S256x512 .f32) i = _
  rw [select_at (w8_sgt0 c), select_at ((w8_slt3 c).trans (show zc c ≤ 2 ↔ zc c < 3 by omega)), zero_at]
  congr 1
  · congr 1
    by_cases h : 0 < zc c
    · rw [if_pos h, if_pos h]; unfold rin; rw [if_neg (by omega)]
    · rw [if_neg h, if_neg h]
  · by_cases h : zc c < 3
    · rw [if_pos h, if_pos h]; unfold lin; rw [if_neg (by omega)]
    · rw [if_neg h, if_neg h]

/-- A finished quarter is the sum over its line. -/
theorem mine_sum (a z : Fin 4) (i : S256x512.Idx) : mine m (ln a z) i = ∑ y : Fin 4, xv m (ln a y) z i := by
  rw [mine_at, zk_ln, zc_ln, Fin.sum_univ_four]
  have r0 := rsum_0 m a
  have r1 := rsum_up m (ln a 1) (ln a 0) (by rw [zc_ln]; decide) (zl_ln1 a)
  have r2 := rsum_up m (ln a 2) (ln a 1) (by rw [zc_ln]; decide) (zl_ln2 a)
  have l3 := lsum_3 m a
  have l2 := lsum_down m (ln a 2) (ln a 3) (by rw [zc_ln]; decide) (zr_ln2 a)
  have l1 := lsum_down m (ln a 1) (ln a 2) (by rw [zc_ln]; decide) (zr_ln1 a)
  have hr := fr_ln a z
  have hl := fl_ln a z
  match z with
  | 0 =>
    rw [if_neg (by decide), if_pos (by decide), zr_ln0, l1, l2, l3, hl (by decide)]
    simp only [add_zero, add_assoc]
  | 1 =>
    rw [if_pos (by decide), if_pos (by decide), zl_ln1, zr_ln1, r0, l2, l3, hl (by decide), hr (by decide)]
    simp only [add_assoc, add_left_comm, add_comm]
  | 2 =>
    rw [if_pos (by decide), if_pos (by decide), zl_ln2, zr_ln2, r1, r0, l3, hl (by decide), hr (by decide)]
    simp only [add_assoc, add_left_comm, add_comm]
  | 3 =>
    rw [if_pos (by decide), if_neg (by decide), zl_ln3, r2, r1, r0, hr (by decide)]
    simp only [add_zero, zero_add, add_assoc, add_left_comm, add_comm]

/-! ## The result -/

theorem xstg_eq (c : Dev nD) : xstg m c = m ((c : Thread nD τ).loc main_arg0) := by
  unfold xstg
  exact Memref.read_access_unit_zero (Elt Ideal) main_arg0 (funext fun a => by fin_cases a <;> decide) (fun a => by fin_cases a <;> decide) _

/-- Where the quarter of device `c` lies in its array. -/
def at3 (c : Dev nD) (k : Fin 4) (i : S256x512.Idx) : S1x1024x2048.Idx := fun a => match a with
  | ⟨0, _⟩ => (0 : Fin 1)
  | ⟨1, _⟩ => ⟨512 * (c.val / 8) + 256 * (c.val / 4 % 2) + (i 0).val, by
      have h := (i 0).isLt; have := c.isLt; change _ < 256 at h; change _ < 16 at this; change _ < 1024; omega⟩
  | ⟨2, _⟩ => ⟨512 * k.val + (i 1).val, by have h := (i 1).isLt; have := k.isLt; change _ < 512 at h; change _ < 2048; omega⟩

theorem xv_at (c : Dev nD) (k : Fin 4) (i : S256x512.Idx) : xv m c k i = m ((c : Thread nD τ).loc main_arg0) (at3 c k i) := by
  unfold xv
  rw [show shapeCast S256x512 (xblk m c k) shapeCasts_S1x256x512_S256x512 i = xblk m c k (Fin.cons ⟨0, Nat.one_pos⟩ i) from shapeCast_dropUnit_apply _ _ _ _]
  unfold xblk
  rw [xstg_eq]
  show m _ _ = m _ _
  congr 1
  funext a
  apply Fin.ext
  fin_cases a
  · rfl
  · show 512 * (c.val / 8) + 256 * (c.val / 4 % 2) + 1 * (i 0).val = _
    rw [Nat.one_mul]; rfl
  · show 512 * k.val + 1 * (i 1).val = _
    rw [Nat.one_mul]; rfl

/-- The place of row and column `j` in slice `y` of the whole array. -/
def whole (y : Fin 4) (j : (⟨2, ![1024, 2048]⟩ : Shape).Idx) : (⟨3, ![4, 1024, 2048]⟩ : Shape).Idx := fun a => match a with
  | ⟨0, _⟩ => y
  | ⟨1, _⟩ => (j 0 : Fin 1024)
  | ⟨2, _⟩ => (j 1 : Fin 2048)

/-- If device `c` holds slice `z` of a whole array, then its result is column block `z` of the sum of the slices. -/
theorem out_sum (X : (⟨3, ![4, 1024, 2048]⟩ : Shape).Idx → EReal)
    (hX : ∀ c : Dev nD, m ((c : Thread nD τ).loc main_arg0) = Layout.blockN ⟨3, ![1, 1024, 2048]⟩ ⟨3, ![4, 1024, 2048]⟩ (Layout.meshBlock [2, 2, 4] ![[2], [], []] c) X)
    (c : Dev nD) :
    outAt m c = Layout.blockN ⟨2, ![1024, 512]⟩ ⟨2, ![1024, 2048]⟩ (Layout.meshBlock [2, 2, 4] ![[], [2]] c) (fun j => ∑ y : Fin 4, X (whole y j)) := by
  funext i
  obtain ⟨i0, i1⟩ : (i 0).val < 1024 ∧ (i 1).val < 512 := ⟨(i 0).isLt, (i 1).isLt⟩
  obtain ⟨a, z, hq, hz⟩ : ∃ a z, qdev c ⟨(i 0).val / 256, by omega⟩ = ln a z ∧ a.val = (i 0).val / 256 ∧ z.val = c.val % 4 := by
    have hc : c.val % 4 < 4 := Nat.mod_lt _ (by decide)
    refine ⟨⟨(i 0).val / 256, by omega⟩, ⟨c.val % 4, hc⟩, Fin.ext ?_, rfl, rfl⟩
    show 8 * ((i 0).val / 256 / 2) + 4 * ((i 0).val / 256 % 2) + c.val % 4 = 4 * ((i 0).val / 256) + c.val % 4
    omega
  rw [Layout.blockN_apply]
  unfold outAt
  dsimp only
  rw [hq, mine_sum]
  refine Finset.sum_congr (M := EReal) rfl fun y _ => ?_
  rw [xv_at, hX, Layout.blockN_apply]
  congr 1
  funext b
  apply Fin.ext
  have hy : (ln a y).val = 4 * a.val + y.val := rfl
  have := a.isLt; have := y.isLt
  fin_cases b
  · show (Layout.meshLin [2, 2, 4] (ln a y).val [2]) * 1 + 0 = y.val
    show ((ln a y).val / 1 % 4 * 1 + 0) * 1 + 0 = y.val
    omega
  · show 0 * 1024 + (512 * ((ln a y).val / 8) + 256 * ((ln a y).val / 4 % 2) + (i 0).val % 256) = 0 * 1024 + (i 0).val
    omega
  · show 0 * 2048 + (512 * z.val + (i 1).val) = (c.val / 1 % 4 * 1 + 0) * 512 + (i 1).val
    omega

end Cert.KernelIdeal.ReduceScatter
-- ==== Proof.lean ====
/-
The five claims about the kernel, put together: the three frames, the idealization, and the equation with the reference.
The kernel's run is proved in `Proof/Kernel/` and, at exact arithmetic, in `Proof/KernelIdeal/`; `Proof/KernelIdeal/Value.lean`
has the sum that the run leaves.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel at the machine's arithmetic: every run ends, with the argument as it was and all semaphores at zero. -/
theorem frame_kernel : Cert.quiescent_Kernel := by
  intro m ρ _
  exact (θ_run Cert.Kernel.defs _ _).mono
    (fun _ h => ⟨fun c => (h.1 c (0 : Fin 2)).trans (Cert.Kernel.ReduceScatter.final_x m ρ c), h.2⟩) (Cert.Kernel.ReduceScatter.run_main (F := Bits) m ρ)

/-- The same at exact arithmetic. -/
theorem frame_ideal : Cert.quiescent_KernelIdeal := by
  intro m ρ _
  exact (θ_run Cert.KernelIdeal.defs _ _).mono
    (fun _ h => ⟨fun c => (h.1 c (0 : Fin 2)).trans (Cert.KernelIdeal.ReduceScatter.final_x m ρ c), h.2⟩) (Cert.KernelIdeal.ReduceScatter.run_main (F := Ideal) m ρ)

/-- The reference leaves its argument as it was; it has no semaphores. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The sum over the first axis that the reference takes is, at row and column `j`, the sum of the four slices there. -/
theorem reference_sum (X : Cert.ReferenceIdeal.S4x1024x2048.Idx → EReal) :
    Host.reduceAdd (F := Ideal) X (constant Cert.ReferenceIdeal.S_ .f32 0x00000000#32)
        Cert.ReferenceIdeal.Gen.reducesTo_S4x1024x2048_S1024x2048_d0 Cert.ReferenceIdeal.Gen.h_S_
      = fun j => (∑ y : Fin 4, X (Cert.KernelIdeal.ReduceScatter.whole y j) : EReal) := by
  funext j
  rw [Host.reduceAdd_apply]
  show Ideal.hostReduceAdd _ X (Ideal.ofBits .f32 0x00000000#32) j = _
  rw [Ideal.hostReduceAdd_r3_a0, Ideal.ofBits_zero_f32, zero_add]
  refine Finset.sum_congr (M := EReal) rfl fun y _ => congrArg X (funext fun a => ?_)
  match a with
  | ⟨0, _⟩ => rfl
  | ⟨1, _⟩ => rfl
  | ⟨2, _⟩ => rfl

/-- At exact arithmetic, every device ends with its column block of the reference's result. -/
theorem algebraic : Cert.algebraic_KernelIdeal_ReferenceIdeal := by
  intro m ρ m' ρ' _ hX
  refine ⟨_, ?_, (θ_run Cert.ReferenceIdeal.defs _ _).mono (fun _ h => h 0) (Cert.ReferenceIdeal.Value.run (F := Ideal) m' ρ')⟩
  refine (θ_run Cert.KernelIdeal.defs _ _).mono
    (fun _ h c => ⟨(h.1 c (1 : Fin 2)).trans ?_, (h.1 c (0 : Fin 2)).trans (Cert.KernelIdeal.ReduceScatter.final_x m ρ c)⟩)
    (Cert.KernelIdeal.ReduceScatter.run_main (F := Ideal) m ρ)
  rw [Cert.KernelIdeal.ReduceScatter.final_out, Cert.KernelIdeal.ReduceScatter.out_sum m _ hX c]
  exact congrArg (fun v => Layout.blockN ⟨2, ![1024, 512]⟩ ⟨2, ![1024, 2048]⟩ (Layout.meshBlock [2, 2, 4] ![[], [2]] c) v) (reference_sum _).symm

/-- All the claims of `Defs.lean`. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
